-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codebooks_finite [hPre_codebooks_finite : Cert.Pre_codebooks_finite.Facts] (m : (ℓ : Loc Cert.KernelIdeal.nD Cert.KernelIdeal.τ Cert.KernelIdeal.sig) → Buf (Elt Ideal) ℓ) : Prop :=
  ∀ c : Dev Cert.KernelIdeal.nD,
    (Cert.Pre_codebooks_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codebooks_finite [hPre_codebooks_finite : Cert.Pre_codebooks_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codebooks_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_codebooks_finite [hKernelIdeal : Cert.KernelIdeal.Facts] [hPre_codebooks_finite : Cert.Pre_codebooks_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codebooks_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_codebooks_finite [hReferenceIdeal : Cert.ReferenceIdeal.Facts] [hPre_codebooks_finite : Cert.Pre_codebooks_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codebooks_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_codebooks_finite [hKernelIdeal : Cert.KernelIdeal.Facts] [hReferenceIdeal : Cert.ReferenceIdeal.Facts] [hPre_codebooks_finite : Cert.Pre_codebooks_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codebooks_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v38)) (v3 : (c : Dev Cert.KernelIdeal.nD) → Buf (Elt Ideal) ((c.tc : Thread Cert.KernelIdeal.nD Cert.KernelIdeal.τ).loc Cert.KernelIdeal.main_v40)) (v4 : (c : Dev Cert.KernelIdeal.nD) → Buf (Elt Ideal) ((c.tc : Thread Cert.KernelIdeal.nD Cert.KernelIdeal.τ).loc Cert.KernelIdeal.main_v42)) (v5 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_v40) = v3 c
          ∧ r.2.mem ((c.tc : Thread Cert.KernelIdeal.nD Cert.KernelIdeal.τ).loc Cert.KernelIdeal.main_v42) = v4 c
          ∧ r.2.mem ((c.tc : Thread Cert.KernelIdeal.nD Cert.KernelIdeal.τ).loc Cert.KernelIdeal.main_v34) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_v132) = v4 c
          ∧ r.2.mem ((c.tc : Thread Cert.ReferenceIdeal.nD Cert.ReferenceIdeal.τ).loc Cert.ReferenceIdeal.main_v133) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_codebooks_finite : Cert.Pre_codebooks_finite.Facts),
    quiescent_Kernel (hKernel := hKernel)
    ∧ quiescent_KernelIdeal (hKernelIdeal := hKernelIdeal)
    ∧ quiescent_KernelIdeal_pre_codebooks_finite (hKernelIdeal := hKernelIdeal) (hPre_codebooks_finite := hPre_codebooks_finite)
    ∧ quiescent_ReferenceIdeal (hReferenceIdeal := hReferenceIdeal)
    ∧ quiescent_ReferenceIdeal_pre_codebooks_finite (hReferenceIdeal := hReferenceIdeal) (hPre_codebooks_finite := hPre_codebooks_finite)
    ∧ preserves_Kernel_KernelIdeal
    ∧ algebraic_KernelIdeal_ReferenceIdeal_pre_codebooks_finite (hKernelIdeal := hKernelIdeal) (hReferenceIdeal := hReferenceIdeal) (hPre_codebooks_finite := hPre_codebooks_finite)
-- ==== Pre_codebooks_finite.lean ====
abbrev S8x256x2048 : Shape := ⟨3, ![8, 256, 2048]⟩
abbrev S128x256 : Shape := ⟨2, ![128, 256]⟩
abbrev S128 : Shape := ⟨1, ![128]⟩
abbrev S4x1024x128 : Shape := ⟨3, ![4, 1024, 128]⟩
abbrev S256x128 : Shape := ⟨2, ![256, 128]⟩
abbrev S256 : Shape := ⟨1, ![256]⟩
abbrev S_ : Shape := ⟨0, ![]⟩

class Facts : Prop where
  bcast_S_S4x1024x128 : S_.BroadcastsInDim S4x1024x128 (![] : Fin 0 → Fin S4x1024x128.rank)
  reducesTo_S4x1024x128_S_d0_1_2 : S4x1024x128.ReducesTo [0, 1, 2] S_
  h_S_ : 0 < S_.numel

variable [Facts]

def fn {F : FTy → Type} [FloatOps F] (main_arg0 : FVec F S8x256x2048 .f32) (main_arg1 : FVec F S128x256 .f32) (main_arg2 : FVec F S128 .f32) (main_arg3 : FVec F S4x1024x128 .f32) (main_arg4 : FVec F S256x128 .f32) (main_arg5 : FVec F S256 .f32) : IVec S_ 1 :=
  let main_v0 : FVec F S4x1024x128 .f32 := Host.absf main_arg3
  let main_cst : FVec F S_ .f32 := constant S_ .f32 0x7F800000#32
  let main_v1 : FVec F S4x1024x128 .f32 := broadcastInDim S4x1024x128 ![] bcast_S_S4x1024x128 main_cst
  let main_v2 : IVec S4x1024x128 1 := cmpf .olt main_v0 main_v1
  let main_c : IVec S_ 1 := constantI S_ 1 1#1
  let main_v3 : IVec S_ 1 := (fun x v => Host.reduce IntOp.andi x v reducesTo_S4x1024x128_S_d0_1_2 h_S_) main_v2 main_c
  main_v3
-- ==== Kernel.lean ====
abbrev S8x256x2048 : Shape := ⟨3, ![8, 256, 2048]⟩
abbrev S128x256 : Shape := ⟨2, ![128, 256]⟩
abbrev S128 : Shape := ⟨1, ![128]⟩
abbrev S4x1024x128 : Shape := ⟨3, ![4, 1024, 128]⟩
abbrev S256x128 : Shape := ⟨2, ![256, 128]⟩
abbrev S256 : Shape := ⟨1, ![256]⟩
abbrev S_ : Shape := ⟨0, ![]⟩
abbrev S4x1024x384 : Shape := ⟨3, ![4, 1024, 384]⟩
abbrev S1x128 : Shape := ⟨2, ![1, 128]⟩
abbrev S256x1 : Shape := ⟨2, ![256, 1]⟩
abbrev S8x2048x4 : Shape := ⟨3, ![8, 2048, 4]⟩
abbrev S1x1 : Shape := ⟨2, ![1, 1]⟩
abbrev S1x256x2048 : Shape := ⟨3, ![1, 256, 2048]⟩
abbrev S1x2048x4 : Shape := ⟨3, ![1, 2048, 4]⟩
abbrev S4x1024 : Shape := ⟨2, ![4, 1024]⟩
abbrev S1x1024x128 : Shape := ⟨3, ![1, 1024, 128]⟩
abbrev S1024x128 : Shape := ⟨2, ![1024, 128]⟩
abbrev S1024 : Shape := ⟨1, ![1024]⟩
abbrev S1x1024 : Shape := ⟨2, ![1, 1024]⟩
abbrev S256x2048 : Shape := ⟨2, ![256, 2048]⟩
abbrev S2048x128 : Shape := ⟨2, ![2048, 128]⟩
abbrev S1024x1024 : Shape := ⟨2, ![1024, 1024]⟩
abbrev S1x1024x384 : Shape := ⟨3, ![1, 1024, 384]⟩
abbrev S1024x384 : Shape := ⟨2, ![1024, 384]⟩
abbrev S1024x1 : Shape := ⟨2, ![1024, 1]⟩
abbrev S1 : Shape := ⟨1, ![1]⟩
abbrev S1x1x1 : Shape := ⟨3, ![1, 1, 1]⟩
abbrev S1x1024x1 : Shape := ⟨3, ![1, 1024, 1]⟩
abbrev S8x2048x1 : Shape := ⟨3, ![8, 2048, 1]⟩
abbrev S8x2048 : Shape := ⟨2, ![8, 2048]⟩

abbrev nBuf : Space → Nat
  | .hbm => 55
  | .vmem => 15
  | .smem => 0
  | _ => 0

abbrev bufTy : (tb : Table) → Fin (tcTables nBuf tb) → BufTy
  | .hbm, ⟨0, _⟩ => ⟨S8x256x2048, .f32⟩
  | .hbm, ⟨1, _⟩ => ⟨S128x256, .f32⟩
  | .hbm, ⟨2, _⟩ => ⟨S128, .f32⟩
  | .hbm, ⟨3, _⟩ => ⟨S4x1024x128, .f32⟩
  | .hbm, ⟨4, _⟩ => ⟨S256x128, .f32⟩
  | .hbm, ⟨5, _⟩ => ⟨S256, .f32⟩
  | .hbm, ⟨6, _⟩ => ⟨S4x1024x128, .bf16⟩
  | .hbm, ⟨7, _⟩ => ⟨S4x1024x128, .f32⟩
  | .hbm, ⟨8, _⟩ => ⟨S_, .f32⟩
  | .hbm, ⟨9, _⟩ => ⟨S4x1024x128, .f32⟩
  | .hbm, ⟨10, _⟩ => ⟨S4x1024x128, .f32⟩
  | .hbm, ⟨11, _⟩ => ⟨S4x1024x128, .f32⟩
  | .hbm, ⟨12, _⟩ => ⟨S4x1024x128, .bf16⟩
  | .hbm, ⟨13, _⟩ => ⟨S4x1024x128, .f32⟩
  | .hbm, ⟨14, _⟩ => ⟨S4x1024x128, .f32⟩
  | .hbm, ⟨15, _⟩ => ⟨S4x1024x128, .f32⟩
  | .hbm, ⟨16, _⟩ => ⟨S4x1024x128, .i1⟩
  | .hbm, ⟨17, _⟩ => ⟨S4x1024x128, .f32⟩
  | .hbm, ⟨18, _⟩ => ⟨S4x1024x128, .f32⟩
  | .hbm, ⟨19, _⟩ => ⟨S4x1024x128, .bf16⟩
  | .hbm, ⟨20, _⟩ => ⟨S4x1024x128, .f32⟩
  | .hbm, ⟨21, _⟩ => ⟨S_, .f32⟩
  | .hbm, ⟨22, _⟩ => ⟨S4x1024x128, .f32⟩
  | .hbm, ⟨23, _⟩ => ⟨S4x1024x128, .f32⟩
  | .hbm, ⟨24, _⟩ => ⟨S4x1024x128, .f32⟩
  | .hbm, ⟨25, _⟩ => ⟨S4x1024x128, .bf16⟩
  | .hbm, ⟨26, _⟩ => ⟨S4x1024x128, .f32⟩
  | .hbm, ⟨27, _⟩ => ⟨S4x1024x128, .f32⟩
  | .hbm, ⟨28, _⟩ => ⟨S4x1024x128, .f32⟩
  | .hbm, ⟨29, _⟩ => ⟨S4x1024x128, .i1⟩
  | .hbm, ⟨30, _⟩ => ⟨S4x1024x128, .f32⟩
  | .hbm, ⟨31, _⟩ => ⟨S4x1024x128, .f32⟩
  | .hbm, ⟨32, _⟩ => ⟨S4x1024x128, .bf16⟩
  | .hbm, ⟨33, _⟩ => ⟨S4x1024x128, .bf16⟩
  | .hbm, ⟨34, _⟩ => ⟨S4x1024x128, .bf16⟩
  | .hbm, ⟨35, _⟩ => ⟨S4x1024x384, .bf16⟩
  | .hbm, ⟨36, _⟩ => ⟨S_, .f32⟩
  | .hbm, ⟨37, _⟩ => ⟨S4x1024x128, .f32⟩
  | .hbm, ⟨38, _⟩ => ⟨S4x1024x128, .f32⟩
  | .hbm, ⟨39, _⟩ => ⟨S1x128, .f32⟩
  | .hbm, ⟨40, _⟩ => ⟨S256x1, .f32⟩
  | .hbm, ⟨41, _⟩ => ⟨S8x256x2048, .f32⟩
  | .hbm, ⟨42, _⟩ => ⟨S8x2048x4, .i32⟩
  | .hbm, ⟨43, _⟩ => ⟨S1x1, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8x2048x1, .i32⟩
  | .hbm, ⟨48, _⟩ => ⟨S8x2048, .i32⟩
  | .hbm, ⟨49, _⟩ => ⟨S8x2048x1, .i32⟩
  | .hbm, ⟨50, _⟩ => ⟨S8x2048, .i32⟩
  | .hbm, ⟨51, _⟩ => ⟨S8x2048x1, .i32⟩
  | .hbm, ⟨52, _⟩ => ⟨S8x2048, .i32⟩
  | .hbm, ⟨53, _⟩ => ⟨S8x2048x1, .i32⟩
  | .hbm, ⟨54, _⟩ => ⟨S8x2048, .i32⟩
  | .local _ .vmem, ⟨0, _⟩ => ⟨S1x256x2048, .f32⟩
  | .local _ .vmem, ⟨1, _⟩ => ⟨S1x256x2048, .f32⟩
  | .local _ .vmem, ⟨2, _⟩ => ⟨S128x256, .f32⟩
  | .local _ .vmem, ⟨3, _⟩ => ⟨S1x128, .f32⟩
  | .local _ .vmem, ⟨4, _⟩ => ⟨S4x1024x128, .f32⟩
  | .local _ .vmem, ⟨5, _⟩ => ⟨S4x1024x128, .f32⟩
  | .local _ .vmem, ⟨6, _⟩ => ⟨S4x1024x384, .bf16⟩
  | .local _ .vmem, ⟨7, _⟩ => ⟨S256x128, .f32⟩
  | .local _ .vmem, ⟨8, _⟩ => ⟨S256x1, .f32⟩
  | .local _ .vmem, ⟨9, _⟩ => ⟨S1x256x2048, .f32⟩
  | .local _ .vmem, ⟨10, _⟩ => ⟨S1x256x2048, .f32⟩
  | .local _ .vmem, ⟨11, _⟩ => ⟨S1x2048x4, .i32⟩
  | .local _ .vmem, ⟨12, _⟩ => ⟨S1x2048x4, .i32⟩
  | .local _ .vmem, ⟨13, _⟩ => ⟨S1x1, .f32⟩
  | .local _ .vmem, ⟨14, _⟩ => ⟨S4x1024, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32_0 : Ref sig .tc := ⟨.hbm, 41, rfl⟩
abbrev main_v32_1 : Ref sig .tc := ⟨.hbm, 42, rfl⟩
abbrev main_v32_2 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1024x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x4 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S8x256x2048 : Shape := ⟨3, ![8, 256, 2048]⟩
abbrev S128x256 : Shape := ⟨2, ![128, 256]⟩
abbrev S128 : Shape := ⟨1, ![128]⟩
abbrev S4x1024x128 : Shape := ⟨3, ![4, 1024, 128]⟩
abbrev S256x128 : Shape := ⟨2, ![256, 128]⟩
abbrev S256 : Shape := ⟨1, ![256]⟩
abbrev S8x2048x128 : Shape := ⟨3, ![8, 2048, 128]⟩
abbrev S8x128x2048 : Shape := ⟨3, ![8, 128, 2048]⟩
abbrev S1x128x1 : Shape := ⟨3, ![1, 128, 1]⟩
abbrev S_ : Shape := ⟨0, ![]⟩
abbrev S1x1024x128 : Shape := ⟨3, ![1, 1024, 128]⟩
abbrev S1024x128 : Shape := ⟨2, ![1024, 128]⟩
abbrev S16384x128 : Shape := ⟨2, ![16384, 128]⟩
abbrev S16384 : Shape := ⟨1, ![16384]⟩
abbrev S16384x1 : Shape := ⟨2, ![16384, 1]⟩
abbrev S128x1024 : Shape := ⟨2, ![128, 1024]⟩
abbrev S16384x1024 : Shape := ⟨2, ![16384, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S8x2048 : Shape := ⟨2, ![8, 2048]⟩
abbrev S8x2048x256 : Shape := ⟨3, ![8, 2048, 256]⟩
abbrev S1x256x1 : Shape := ⟨3, ![1, 256, 1]⟩

abbrev nBuf : Space → Nat
  | .hbm => 271
  | .vmem => 0
  | .smem => 0
  | _ => 0

abbrev hbmTy0_0 (i : Nat) : BufTy := match i % 128 with
  | 0 => ⟨S8x256x2048, .f32⟩
  | 1 => ⟨S128x256, .f32⟩
  | 2 => ⟨S128, .f32⟩
  | 3 => ⟨S4x1024x128, .f32⟩
  | 4 => ⟨S256x128, .f32⟩
  | 5 => ⟨S256, .f32⟩
  | 6 => ⟨S8x2048x128, .f32⟩
  | 7 => ⟨S8x128x2048, .f32⟩
  | 8 => ⟨S1x128x1, .f32⟩
  | 9 => ⟨S8x128x2048, .f32⟩
  | 10 => ⟨S8x128x2048, .f32⟩
  | 11 => ⟨S_, .f32⟩
  | 12 => ⟨S8x128x2048, .f32⟩
  | 13 => ⟨S1x1024x128, .f32⟩
  | 14 => ⟨S1024x128, .f32⟩
  | 15 => ⟨S8x2048x128, .f32⟩
  | 16 => ⟨S16384x128, .f32⟩
  | 17 => ⟨S16384x128, .f32⟩
  | 18 => ⟨S_, .f32⟩
  | 19 => ⟨S16384, .f32⟩
  | 20 => ⟨S16384x1, .f32⟩
  | 21 => ⟨S128x1024, .f32⟩
  | 22 => ⟨S16384x1024, .f32⟩
  | 23 => ⟨S_, .f32⟩
  | 24 => ⟨S16384x1024, .f32⟩
  | 25 => ⟨S16384x1024, .f32⟩
  | 26 => ⟨S16384x1024, .f32⟩
  | 27 => ⟨S16384x1024, .f32⟩
  | 28 => ⟨S1024x128, .f32⟩
  | 29 => ⟨S_, .f32⟩
  | 30 => ⟨S1024, .f32⟩
  | 31 => ⟨S1x1024, .f32⟩
  | 32 => ⟨S16384x1024, .f32⟩
  | 33 => ⟨S16384x1024, .f32⟩
  | 34 => ⟨S16384x1024, .i32⟩
  | 35 => ⟨S_, .f32⟩
  | 36 => ⟨S_, .i32⟩
  | 37 => ⟨S16384, .f32⟩
  | 38 => ⟨S16384, .i32⟩
  | 39 => ⟨S_, .i32⟩
  | 40 => ⟨S16384, .i32⟩
  | 41 => ⟨S16384, .i1⟩
  | 42 => ⟨S_, .i32⟩
  | 43 => ⟨S16384, .i32⟩
  | 44 => ⟨S16384, .i32⟩
  | 45 => ⟨S16384, .i32⟩
  | 46 => ⟨S16384x1, .i32⟩
  | 47 => ⟨S1, .i32⟩
  | 48 => ⟨S_, .i32⟩
  | 49 => ⟨S16384x1, .i32⟩
  | 50 => ⟨S16384x1, .i1⟩
  | 51 => ⟨S1x1, .i32⟩
  | 52 => ⟨S16384x1, .i32⟩
  | 53 => ⟨S16384x1, .i1⟩
  | 54 => ⟨S16384x1, .i1⟩
  | 55 => ⟨S_, .i1⟩
  | 56 => ⟨S16384, .i1⟩
  | 57 => ⟨S16384x128, .f32⟩
  | 58 => ⟨S16384x128, .i1⟩
  | 59 => ⟨S_, .f32⟩
  | 60 => ⟨S16384x128, .f32⟩
  | 61 => ⟨S16384x128, .f32⟩
  | 62 => ⟨S8x2048x128, .f32⟩
  | 63 => ⟨S8x128x2048, .f32⟩
  | 64 => ⟨S8x128x2048, .f32⟩
  | 65 => ⟨S8x128x2048, .f32⟩
  | 66 => ⟨S_, .f32⟩
  | 67 => ⟨S_, .f32⟩
  | 68 => ⟨S_, .f32⟩
  | 69 => ⟨S_, .f32⟩
  | 70 => ⟨S8x128x2048, .f32⟩
  | 71 => ⟨S8x128x2048, .f32⟩
  | 72 => ⟨S8x128x2048, .f32⟩
  | 73 => ⟨S8x128x2048, .f32⟩
  | 74 => ⟨S8x2048, .i32⟩
  | 75 => ⟨S_, .f32⟩
  | 76 => ⟨S_, .f32⟩
  | 77 => ⟨S1x1024x128, .f32⟩
  | 78 => ⟨S1024x128, .f32⟩
  | 79 => ⟨S8x2048x128, .f32⟩
  | 80 => ⟨S16384x128, .f32⟩
  | 81 => ⟨S16384x128, .f32⟩
  | 82 => ⟨S_, .f32⟩
  | 83 => ⟨S16384, .f32⟩
  | 84 => ⟨S16384x1, .f32⟩
  | 85 => ⟨S128x1024, .f32⟩
  | 86 => ⟨S16384x1024, .f32⟩
  | 87 => ⟨S_, .f32⟩
  | 88 => ⟨S16384x1024, .f32⟩
  | 89 => ⟨S16384x1024, .f32⟩
  | 90 => ⟨S16384x1024, .f32⟩
  | 91 => ⟨S16384x1024, .f32⟩
  | 92 => ⟨S1024x128, .f32⟩
  | 93 => ⟨S_, .f32⟩
  | 94 => ⟨S1024, .f32⟩
  | 95 => ⟨S1x1024, .f32⟩
  | 96 => ⟨S16384x1024, .f32⟩
  | 97 => ⟨S16384x1024, .f32⟩
  | 98 => ⟨S16384x1024, .i32⟩
  | 99 => ⟨S_, .f32⟩
  | 100 => ⟨S_, .i32⟩
  | 101 => ⟨S16384, .f32⟩
  | 102 => ⟨S16384, .i32⟩
  | 103 => ⟨S_, .i32⟩
  | 104 => ⟨S16384, .i32⟩
  | 105 => ⟨S16384, .i1⟩
  | 106 => ⟨S_, .i32⟩
  | 107 => ⟨S16384, .i32⟩
  | 108 => ⟨S16384, .i32⟩
  | 109 => ⟨S16384, .i32⟩
  | 110 => ⟨S16384x1, .i32⟩
  | 111 => ⟨S1, .i32⟩
  | 112 => ⟨S_, .i32⟩
  | 113 => ⟨S16384x1, .i32⟩
  | 114 => ⟨S16384x1, .i1⟩
  | 115 => ⟨S1x1, .i32⟩
  | 116 => ⟨S16384x1, .i32⟩
  | 117 => ⟨S16384x1, .i1⟩
  | 118 => ⟨S16384x1, .i1⟩
  | 119 => ⟨S_, .i1⟩
  | 120 => ⟨S16384, .i1⟩
  | 121 => ⟨S16384x128, .f32⟩
  | 122 => ⟨S16384x128, .i1⟩
  | 123 => ⟨S_, .f32⟩
  | 124 => ⟨S16384x128, .f32⟩
  | 125 => ⟨S16384x128, .f32⟩
  | 126 => ⟨S8x2048x128, .f32⟩
  | 127 => ⟨S8x128x2048, .f32⟩
  | _ => ⟨S8x256x2048, .f32⟩

abbrev hbmTy0_1 (i : Nat) : BufTy := match i % 128 with
  | 0 => ⟨S8x128x2048, .f32⟩
  | 1 => ⟨S8x128x2048, .f32⟩
  | 2 => ⟨S_, .f32⟩
  | 3 => ⟨S_, .f32⟩
  | 4 => ⟨S_, .f32⟩
  | 5 => ⟨S_, .f32⟩
  | 6 => ⟨S8x128x2048, .f32⟩
  | 7 => ⟨S8x128x2048, .f32⟩
  | 8 => ⟨S8x128x2048, .f32⟩
  | 9 => ⟨S8x128x2048, .f32⟩
  | 10 => ⟨S8x2048, .i32⟩
  | 11 => ⟨S_, .f32⟩
  | 12 => ⟨S1x1024x128, .f32⟩
  | 13 => ⟨S1024x128, .f32⟩
  | 14 => ⟨S8x2048x128, .f32⟩
  | 15 => ⟨S16384x128, .f32⟩
  | 16 => ⟨S16384x128, .f32⟩
  | 17 => ⟨S_, .f32⟩
  | 18 => ⟨S16384, .f32⟩
  | 19 => ⟨S16384x1, .f32⟩
  | 20 => ⟨S128x1024, .f32⟩
  | 21 => ⟨S16384x1024, .f32⟩
  | 22 => ⟨S_, .f32⟩
  | 23 => ⟨S16384x1024, .f32⟩
  | 24 => ⟨S16384x1024, .f32⟩
  | 25 => ⟨S16384x1024, .f32⟩
  | 26 => ⟨S16384x1024, .f32⟩
  | 27 => ⟨S1024x128, .f32⟩
  | 28 => ⟨S_, .f32⟩
  | 29 => ⟨S1024, .f32⟩
  | 30 => ⟨S1x1024, .f32⟩
  | 31 => ⟨S16384x1024, .f32⟩
  | 32 => ⟨S16384x1024, .f32⟩
  | 33 => ⟨S16384x1024, .i32⟩
  | 34 => ⟨S_, .f32⟩
  | 35 => ⟨S_, .i32⟩
  | 36 => ⟨S16384, .f32⟩
  | 37 => ⟨S16384, .i32⟩
  | 38 => ⟨S_, .i32⟩
  | 39 => ⟨S16384, .i32⟩
  | 40 => ⟨S16384, .i1⟩
  | 41 => ⟨S_, .i32⟩
  | 42 => ⟨S16384, .i32⟩
  | 43 => ⟨S16384, .i32⟩
  | 44 => ⟨S16384, .i32⟩
  | 45 => ⟨S16384x1, .i32⟩
  | 46 => ⟨S1, .i32⟩
  | 47 => ⟨S_, .i32⟩
  | 48 => ⟨S16384x1, .i32⟩
  | 49 => ⟨S16384x1, .i1⟩
  | 50 => ⟨S1x1, .i32⟩
  | 51 => ⟨S16384x1, .i32⟩
  | 52 => ⟨S16384x1, .i1⟩
  | 53 => ⟨S16384x1, .i1⟩
  | 54 => ⟨S_, .i1⟩
  | 55 => ⟨S16384, .i1⟩
  | 56 => ⟨S16384x128, .f32⟩
  | 57 => ⟨S16384x128, .i1⟩
  | 58 => ⟨S_, .f32⟩
  | 59 => ⟨S16384x128, .f32⟩
  | 60 => ⟨S16384x128, .f32⟩
  | 61 => ⟨S8x2048x128, .f32⟩
  | 62 => ⟨S8x128x2048, .f32⟩
  | 63 => ⟨S8x128x2048, .f32⟩
  | 64 => ⟨S8x128x2048, .f32⟩
  | 65 => ⟨S_, .f32⟩
  | 66 => ⟨S_, .f32⟩
  | 67 => ⟨S_, .f32⟩
  | 68 => ⟨S_, .f32⟩
  | 69 => ⟨S8x128x2048, .f32⟩
  | 70 => ⟨S8x128x2048, .f32⟩
  | 71 => ⟨S8x128x2048, .f32⟩
  | 72 => ⟨S8x128x2048, .f32⟩
  | 73 => ⟨S8x2048, .i32⟩
  | 74 => ⟨S_, .f32⟩
  | 75 => ⟨S1x1024x128, .f32⟩
  | 76 => ⟨S1024x128, .f32⟩
  | 77 => ⟨S8x2048x128, .f32⟩
  | 78 => ⟨S16384x128, .f32⟩
  | 79 => ⟨S16384x128, .f32⟩
  | 80 => ⟨S_, .f32⟩
  | 81 => ⟨S16384, .f32⟩
  | 82 => ⟨S16384x1, .f32⟩
  | 83 => ⟨S128x1024, .f32⟩
  | 84 => ⟨S16384x1024, .f32⟩
  | 85 => ⟨S_, .f32⟩
  | 86 => ⟨S16384x1024, .f32⟩
  | 87 => ⟨S16384x1024, .f32⟩
  | 88 => ⟨S16384x1024, .f32⟩
  | 89 => ⟨S16384x1024, .f32⟩
  | 90 => ⟨S1024x128, .f32⟩
  | 91 => ⟨S_, .f32⟩
  | 92 => ⟨S1024, .f32⟩
  | 93 => ⟨S1x1024, .f32⟩
  | 94 => ⟨S16384x1024, .f32⟩
  | 95 => ⟨S16384x1024, .f32⟩
  | 96 => ⟨S16384x1024, .i32⟩
  | 97 => ⟨S_, .f32⟩
  | 98 => ⟨S_, .i32⟩
  | 99 => ⟨S16384, .f32⟩
  | 100 => ⟨S16384, .i32⟩
  | 101 => ⟨S_, .i32⟩
  | 102 => ⟨S16384, .i32⟩
  | 103 => ⟨S16384, .i1⟩
  | 104 => ⟨S_, .i32⟩
  | 105 => ⟨S16384, .i32⟩
  | 106 => ⟨S16384, .i32⟩
  | 107 => ⟨S16384, .i32⟩
  | 108 => ⟨S16384x1, .i32⟩
  | 109 => ⟨S1, .i32⟩
  | 110 => ⟨S_, .i32⟩
  | 111 => ⟨S16384x1, .i32⟩
  | 112 => ⟨S16384x1, .i1⟩
  | 113 => ⟨S1x1, .i32⟩
  | 114 => ⟨S16384x1, .i32⟩
  | 115 => ⟨S16384x1, .i1⟩
  | 116 => ⟨S16384x1, .i1⟩
  | 117 => ⟨S_, .i1⟩
  | 118 => ⟨S16384, .i1⟩
  | 119 => ⟨S16384x128, .f32⟩
  | 120 => ⟨S16384x128, .i1⟩
  | 121 => ⟨S_, .f32⟩
  | 122 => ⟨S16384x128, .f32⟩
  | 123 => ⟨S16384x128, .f32⟩
  | 124 => ⟨S8x2048x128, .f32⟩
  | 125 => ⟨S8x128x2048, .f32⟩
  | 126 => ⟨S8x128x2048, .f32⟩
  | 127 => ⟨S8x128x2048, .f32⟩
  | _ => ⟨S8x256x2048, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S8x128x2048, .f32⟩
  | 5 => ⟨S8x128x2048, .f32⟩
  | 6 => ⟨S8x128x2048, .f32⟩
  | 7 => ⟨S8x128x2048, .f32⟩
  | 8 => ⟨S8x2048, .i32⟩
  | 9 => ⟨S_, .f32⟩
  | 10 => ⟨S8x2048x256, .f32⟩
  | 11 => ⟨S8x256x2048, .f32⟩
  | 12 => ⟨S1x256x1, .f32⟩
  | 13 => ⟨S8x256x2048, .f32⟩
  | 14 => ⟨S8x256x2048, .f32⟩
  | _ => ⟨S8x256x2048, .f32⟩

abbrev hbmTy (i : Nat) : BufTy := match i / 128 with
  | 0 => hbmTy0_0 i
  | 1 => hbmTy0_1 i
  | 2 => hbmTy0_2 i
  | _ => ⟨S8x256x2048, .f32⟩

abbrev bufTy : (tb : Table) → Fin (tcTables nBuf tb) → BufTy
  | .hbm, ⟨i, _⟩ => hbmTy i
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_cst : Ref sig .tc := ⟨.hbm, 35, rfl⟩
abbrev main_call0_c : Ref sig .tc := ⟨.hbm, 36, rfl⟩
abbrev main_call0_v1_0 : Ref sig .tc := ⟨.hbm, 37, rfl⟩
abbrev main_v24 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_3 : Ref sig .tc := ⟨.hbm, 66, rfl⟩
abbrev main_v30 : Ref sig .tc := ⟨.hbm, 67, rfl⟩
abbrev main_cst_4 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_5 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_6 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_7 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_8 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_call2_v0 : Ref sig .tc := ⟨.hbm, 98, rfl⟩
abbrev main_call2_cst : Ref sig .tc := ⟨.hbm, 99, rfl⟩
abbrev main_call2_c : Ref sig .tc := ⟨.hbm, 100, rfl⟩
abbrev main_call2_v1_0 : Ref sig .tc := ⟨.hbm, 101, rfl⟩
abbrev main_v56 : Ref sig .tc := ⟨.hbm, 102, rfl⟩
abbrev main_call3_c : Ref sig .tc := ⟨.hbm, 103, rfl⟩
abbrev main_call3_v0 : Ref sig .tc := ⟨.hbm, 104, rfl⟩
abbrev main_call3_v1 : Ref sig .tc := ⟨.hbm, 105, rfl⟩
abbrev main_call3_c_0 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_v5 : Ref sig .tc := ⟨.hbm, 110, rfl⟩
abbrev main_call3_c_1 : Ref sig .tc := ⟨.hbm, 111, rfl⟩
abbrev main_call3_c_2 : Ref sig .tc := ⟨.hbm, 112, rfl⟩
abbrev main_call3_v6 : Ref sig .tc := ⟨.hbm, 113, rfl⟩
abbrev main_call3_v7 : Ref sig .tc := ⟨.hbm, 114, rfl⟩
abbrev main_call3_v8 : Ref sig .tc := ⟨.hbm, 115, rfl⟩
abbrev main_call3_v9 : Ref sig .tc := ⟨.hbm, 116, rfl⟩
abbrev main_call3_v10 : Ref sig .tc := ⟨.hbm, 117, rfl⟩
abbrev main_call3_v11 : Ref sig .tc := ⟨.hbm, 118, rfl⟩
abbrev main_call3_c_3 : Ref sig .tc := ⟨.hbm, 119, rfl⟩
abbrev main_call3_v12 : Ref sig .tc := ⟨.hbm, 120, rfl⟩
abbrev main_call3_v13 : Ref sig .tc := ⟨.hbm, 121, rfl⟩
abbrev main_call3_v14 : Ref sig .tc := ⟨.hbm, 122, rfl⟩
abbrev main_call3_cst : Ref sig .tc := ⟨.hbm, 123, rfl⟩
abbrev main_call3_v15 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_cst_9 : Ref sig .tc := ⟨.hbm, 130, rfl⟩
abbrev main_v62 : Ref sig .tc := ⟨.hbm, 131, rfl⟩
abbrev main_cst_10 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_cst_11 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_cst_12 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_cst_13 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_call4_v0 : Ref sig .tc := ⟨.hbm, 161, rfl⟩
abbrev main_call4_cst : Ref sig .tc := ⟨.hbm, 162, rfl⟩
abbrev main_call4_c : Ref sig .tc := ⟨.hbm, 163, rfl⟩
abbrev main_call4_v1_0 : Ref sig .tc := ⟨.hbm, 164, rfl⟩
abbrev main_v88 : Ref sig .tc := ⟨.hbm, 165, rfl⟩
abbrev main_call5_c : Ref sig .tc := ⟨.hbm, 166, rfl⟩
abbrev main_call5_v0 : Ref sig .tc := ⟨.hbm, 167, rfl⟩
abbrev main_call5_v1 : Ref sig .tc := ⟨.hbm, 168, rfl⟩
abbrev main_call5_c_0 : Ref sig .tc := ⟨.hbm, 169, rfl⟩
abbrev main_call5_v2 : Ref sig .tc := ⟨.hbm, 170, rfl⟩
abbrev main_call5_v3 : Ref sig .tc := ⟨.hbm, 171, rfl⟩
abbrev main_call5_v4 : Ref sig .tc := ⟨.hbm, 172, rfl⟩
abbrev main_call5_v5 : Ref sig .tc := ⟨.hbm, 173, rfl⟩
abbrev main_call5_c_1 : Ref sig .tc := ⟨.hbm, 174, rfl⟩
abbrev main_call5_c_2 : Ref sig .tc := ⟨.hbm, 175, rfl⟩
abbrev main_call5_v6 : Ref sig .tc := ⟨.hbm, 176, rfl⟩
abbrev main_call5_v7 : Ref sig .tc := ⟨.hbm, 177, rfl⟩
abbrev main_call5_v8 : Ref sig .tc := ⟨.hbm, 178, rfl⟩
abbrev main_call5_v9 : Ref sig .tc := ⟨.hbm, 179, rfl⟩
abbrev main_call5_v10 : Ref sig .tc := ⟨.hbm, 180, rfl⟩
abbrev main_call5_v11 : Ref sig .tc := ⟨.hbm, 181, rfl⟩
abbrev main_call5_c_3 : Ref sig .tc := ⟨.hbm, 182, rfl⟩
abbrev main_call5_v12 : Ref sig .tc := ⟨.hbm, 183, rfl⟩
abbrev main_call5_v13 : Ref sig .tc := ⟨.hbm, 184, rfl⟩
abbrev main_call5_v14 : Ref sig .tc := ⟨.hbm, 185, rfl⟩
abbrev main_call5_cst : Ref sig .tc := ⟨.hbm, 186, rfl⟩
abbrev main_call5_v15 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_cst_14 : Ref sig .tc := ⟨.hbm, 193, rfl⟩
abbrev main_v94 : Ref sig .tc := ⟨.hbm, 194, rfl⟩
abbrev main_cst_15 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev main_v102 : Ref sig .tc := ⟨.hbm, 203, rfl⟩
abbrev main_v103 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_cst_16 : Ref sig .tc := ⟨.hbm, 208, rfl⟩
abbrev main_v107 : Ref sig .tc := ⟨.hbm, 209, rfl⟩
abbrev main_v108 : Ref sig .tc := ⟨.hbm, 210, rfl⟩
abbrev main_v109 : Ref sig .tc := ⟨.hbm, 211, rfl⟩
abbrev main_v110 : Ref sig .tc := ⟨.hbm, 212, rfl⟩
abbrev main_cst_17 : Ref sig .tc := ⟨.hbm, 213, rfl⟩
abbrev main_v111 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_v115 : Ref sig .tc := ⟨.hbm, 218, rfl⟩
abbrev main_cst_18 : Ref sig .tc := ⟨.hbm, 219, rfl⟩
abbrev main_v116 : Ref sig .tc := ⟨.hbm, 220, rfl⟩
abbrev main_v117 : Ref sig .tc := ⟨.hbm, 221, rfl⟩
abbrev main_v118 : Ref sig .tc := ⟨.hbm, 222, rfl⟩
abbrev main_v119 : Ref sig .tc := ⟨.hbm, 223, rfl⟩
abbrev main_call6_v0 : Ref sig .tc := ⟨.hbm, 224, rfl⟩
abbrev main_call6_cst : Ref sig .tc := ⟨.hbm, 225, rfl⟩
abbrev main_call6_c : Ref sig .tc := ⟨.hbm, 226, rfl⟩
abbrev main_call6_v1_0 : Ref sig .tc := ⟨.hbm, 227, rfl⟩
abbrev main_v120 : Ref sig .tc := ⟨.hbm, 228, rfl⟩
abbrev main_call7_c : Ref sig .tc := ⟨.hbm, 229, rfl⟩
abbrev main_call7_v0 : Ref sig .tc := ⟨.hbm, 230, rfl⟩
abbrev main_call7_v1 : Ref sig .tc := ⟨.hbm, 231, rfl⟩
abbrev main_call7_c_0 : Ref sig .tc := ⟨.hbm, 232, rfl⟩
abbrev main_call7_v2 : Ref sig .tc := ⟨.hbm, 233, rfl⟩
abbrev main_call7_v3 : Ref sig .tc := ⟨.hbm, 234, rfl⟩
abbrev main_call7_v4 : Ref sig .tc := ⟨.hbm, 235, rfl⟩
abbrev main_call7_v5 : Ref sig .tc := ⟨.hbm, 236, rfl⟩
abbrev main_call7_c_1 : Ref sig .tc := ⟨.hbm, 237, rfl⟩
abbrev main_call7_c_2 : Ref sig .tc := ⟨.hbm, 238, rfl⟩
abbrev main_call7_v6 : Ref sig .tc := ⟨.hbm, 239, rfl⟩
abbrev main_call7_v7 : Ref sig .tc := ⟨.hbm, 240, rfl⟩
abbrev main_call7_v8 : Ref sig .tc := ⟨.hbm, 241, rfl⟩
abbrev main_call7_v9 : Ref sig .tc := ⟨.hbm, 242, rfl⟩
abbrev main_call7_v10 : Ref sig .tc := ⟨.hbm, 243, rfl⟩
abbrev main_call7_v11 : Ref sig .tc := ⟨.hbm, 244, rfl⟩
abbrev main_call7_c_3 : Ref sig .tc := ⟨.hbm, 245, rfl⟩
abbrev main_call7_v12 : Ref sig .tc := ⟨.hbm, 246, rfl⟩
abbrev main_call7_v13 : Ref sig .tc := ⟨.hbm, 247, rfl⟩
abbrev main_call7_v14 : Ref sig .tc := ⟨.hbm, 248, rfl⟩
abbrev main_call7_cst : Ref sig .tc := ⟨.hbm, 249, rfl⟩
abbrev main_call7_v15 : Ref sig .tc := ⟨.hbm, 250, rfl⟩
abbrev main_v121 : Ref sig .tc := ⟨.hbm, 251, rfl⟩
abbrev main_v122 : Ref sig .tc := ⟨.hbm, 252, rfl⟩
abbrev main_v123 : Ref sig .tc := ⟨.hbm, 253, rfl⟩
abbrev main_v124 : Ref sig .tc := ⟨.hbm, 254, rfl⟩
abbrev main_v125 : Ref sig .tc := ⟨.hbm, 255, rfl⟩
abbrev main_cst_19 : Ref sig .tc := ⟨.hbm, 256, rfl⟩
abbrev main_v126 : Ref sig .tc := ⟨.hbm, 257, rfl⟩
abbrev main_cst_20 : Ref sig .tc := ⟨.hbm, 258, rfl⟩
abbrev main_v127 : Ref sig .tc := ⟨.hbm, 259, rfl⟩
abbrev main_v128 : Ref sig .tc := ⟨.hbm, 260, rfl⟩
abbrev main_v129 : Ref sig .tc := ⟨.hbm, 261, rfl⟩
abbrev main_v130 : Ref sig .tc := ⟨.hbm, 262, rfl⟩
abbrev main_v131 : Ref sig .tc := ⟨.hbm, 263, rfl⟩
abbrev main_v132 : Ref sig .tc := ⟨.hbm, 264, rfl⟩
abbrev main_v133 : Ref sig .tc := ⟨.hbm, 265, rfl⟩
abbrev main_v134 : Ref sig .tc := ⟨.hbm, 266, rfl⟩
abbrev main_v135 : Ref sig .tc := ⟨.hbm, 267, rfl⟩
abbrev main_v136 : Ref sig .tc := ⟨.hbm, 268, rfl⟩
abbrev main_v137 : Ref sig .tc := ⟨.hbm, 269, rfl⟩
abbrev main_v138 : Ref sig .tc := ⟨.hbm, 270, rfl⟩

abbrev nD : Nat := 1
abbrev τ : Topo := Topo.v7x

variable {F : FTy → Type} [FloatOps F]
-- ==== Proof.Spec.lean ====
/-
  Residual quantisation of one row, as mathematics over the extended reals: the squared distances of a row to the words
  of a codebook, the first word at the least distance, what is left of the row when that word is taken off, and the
  same with further codebooks. Both programs are shown to compute these; the laws below are all that the two need to
  agree.
-/
module

public import Mathlib.Data.EReal.Operations
public import Mathlib.Data.EReal.Inv
public import Mathlib.Data.Finset.Max
public import Mathlib.Algebra.BigOperators.Fin
public import Mathlib.Algebra.Order.BigOperators.Group.Finset

@[expose] public section

noncomputable section

namespace Cert.Proof

open Finset

/-- A row of 128 entries. -/
abbrev Row := Fin 128 → EReal

/-- A codebook of 1024 words. -/
abbrev Book := Fin 1024 → Row

/-- Every entry of the codebook is a real number. -/
def Finite (C : Book) : Prop := ∀ j e, ∃ r : ℝ, C j e = (r : EReal)

/-- The sum of a row's squares. -/
def square (ρ : Row) : EReal := ∑ e, ρ e * ρ e

/-- The squared distance of a row to word `j`, expanded. -/
def distance (ρ : Row) (C : Book) (j : Fin 1024) : EReal := square ρ - 2 * (∑ e, ρ e * C j e) + square (C j)

/-- Some entry is the least. -/
theorem least_exists (d : Fin 1024 → EReal) : (univ.filter fun j => ∀ i, d j ≤ d i).Nonempty := by
  obtain ⟨j, -, hj⟩ := exists_min_image univ d univ_nonempty
  exact ⟨j, by simpa using fun i => hj i (mem_univ i)⟩

/-- The first place at which the least value stands. -/
def pick (d : Fin 1024 → EReal) : Fin 1024 := (univ.filter fun j => ∀ i, d j ≤ d i).min' (least_exists d)

/-- The value there is the least. -/
theorem pick_le (d : Fin 1024 → EReal) (i : Fin 1024) : d (pick d) ≤ d i :=
  (mem_filter.mp (min'_mem _ (least_exists d))).2 i

/-- No earlier place has the least value. -/
theorem pick_first (d : Fin 1024 → EReal) (j : Fin 1024) (h : ∀ i, d j ≤ d i) : pick d ≤ j :=
  min'_le _ j (by simpa using h)

/-- A place that has the least value, before all others that do, is the one picked. -/
theorem eq_pick (d : Fin 1024 → EReal) (j : Fin 1024) (h : ∀ i, d j < d i ∨ (d j = d i ∧ j ≤ i)) : j = pick d := by
  refine le_antisymm ?_ (pick_first d j fun i => ?_)
  · rcases h (pick d) with hlt | ⟨-, hle⟩
    · exact absurd (pick_le d j) (not_le.mpr hlt)
    · exact hle
  · rcases h i with hlt | ⟨he, -⟩
    · exact hlt.le
    · exact he.le

/-- The least value, as an infimum. -/
theorem inf_eq (d : Fin 1024 → EReal) : univ.inf d = d (pick d) :=
  le_antisymm (inf_le (mem_univ _)) (Finset.le_inf fun i _ => pick_le d i)

/-- The place's own number where the least value stands, and 1024 elsewhere. -/
def numbered (d : Fin 1024 → EReal) (j : Fin 1024) : EReal := if d j = univ.inf d then ((j.val : ℝ) : EReal) else ((1024 : ℝ) : EReal)

/-- The least of those numbers is the place picked. -/
theorem inf_numbered (d : Fin 1024 → EReal) : univ.inf (numbered d) = (((pick d).val : ℝ) : EReal) := by
  refine le_antisymm ((inf_le (mem_univ (pick d))).trans_eq (by simp [numbered, inf_eq])) (Finset.le_inf fun j _ => ?_)
  unfold numbered
  split_ifs with h
  · have := pick_first d j fun i => by rw [h, inf_eq]; exact pick_le d i
    exact EReal.coe_le_coe_iff.mpr (Nat.cast_le.mpr this)
  · have := (pick d).isLt
    exact EReal.coe_le_coe_iff.mpr (by exact_mod_cast this.le)

/-- Only the place picked has that number. -/
theorem numbered_eq_iff (d : Fin 1024 → EReal) (j : Fin 1024) : numbered d j = univ.inf (numbered d) ↔ j = pick d := by
  rw [inf_numbered]
  unfold numbered
  split_ifs with h
  · rw [EReal.coe_eq_coe_iff, Nat.cast_inj, Fin.val_inj]
  · have hp := (pick d).isLt
    constructor
    · intro he
      rw [EReal.coe_eq_coe_iff] at he
      have : (1024 : ℕ) = (pick d).val := by exact_mod_cast he
      omega
    · rintro rfl
      exact absurd (inf_eq d).symm h

/-- What the first `k` codebooks leave of a row. -/
def rest (ρ : Row) (C : ℕ → Book) : ℕ → Row
  | 0 => ρ
  | k + 1 => fun e => rest ρ C k e - C k (pick (distance (rest ρ C k) (C k))) e

/-- The word codebook `k` gives the row. -/
def code (ρ : Row) (C : ℕ → Book) (k : ℕ) : Fin 1024 := pick (distance (rest ρ C k) (C k))

/-- One step of `rest`. -/
theorem rest_succ (ρ : Row) (C : ℕ → Book) (k : ℕ) (e : Fin 128) : rest ρ C (k + 1) e = rest ρ C k e - C k (code ρ C k) e := rfl

/-! ## Laws of the extended reals -/

/-- Two may be taken out of a sum. -/
theorem sum_mul_two {ι : Type} (s : Finset ι) (f : ι → EReal) : ∑ i ∈ s, f i * 2 = 2 * ∑ i ∈ s, f i := by
  classical
  induction s using Finset.induction_on with
  | empty => simp
  | insert a s ha ih =>
    rw [sum_insert ha, sum_insert ha, ih, mul_comm,
      EReal.left_distrib_of_nonneg_of_ne_top (by norm_num) (by exact EReal.coe_ne_top 2)]

/-- A selection by ones and zeros picks the one entry. -/
theorem sum_select {ι : Type} [Fintype ι] [DecidableEq ι] (p : ι) (f : ι → EReal) :
    ∑ i, (if i = p then (1 : EReal) else 0) * f i = f p := by
  rw [sum_eq_single p]
  · simp
  · intro b _ hb; simp [hb]
  · simp

/-- Taking off `x + (q − x)` is taking off `q`, for a real `q`. -/
theorem sub_through (x : EReal) (q : ℝ) : x - (x + ((q : EReal) - x)) = x - q := by
  induction x using EReal.rec with
  | bot => simp
  | top => simp
  | coe r => norm_cast; ring_nf

/-- What is taken off an infinite row entry leaves it as it was. -/
theorem sub_real_top (q : ℝ) : (⊤ : EReal) - q = ⊤ := EReal.top_sub_coe q

/-- The sum of `x_k + (q_k − x_k)` for the first `n` steps. -/
def gathered (x : ℕ → EReal) (q : ℕ → EReal) : ℕ → EReal
  | 0 => 0
  | n + 1 => gathered x q n + (x n + (q n - x n))

/-- Where each step takes the real `q_k` off, the sum of the `x_k + (q_k − x_k)` is what has been taken off in all. -/
theorem gathered_eq (x q : ℕ → EReal) (hq : ∀ k, ∃ r : ℝ, q k = r) (hx : ∀ k, x (k + 1) = x k - q k) (n : ℕ) :
    gathered x q (n + 1) = x 0 - x (n + 1) := by
  choose r hr using hq
  induction hx0 : x 0 using EReal.rec with
  | bot =>
    have hk : ∀ k, x k = ⊥ := by
      intro k; induction k with
      | zero => exact hx0
      | succ k ih => rw [hx, ih, hr]; rfl
    have : ∀ m, gathered x q (m + 1) = ⊥ := fun m => by simp [gathered, hk]
    rw [this, hk]; rfl
  | top =>
    have hk : ∀ k, x k = ⊤ := by
      intro k; induction k with
      | zero => exact hx0
      | succ k ih => rw [hx, ih, hr]; rfl
    have : ∀ m, gathered x q (m + 1) = ⊥ := fun m => by simp [gathered, hk, hr]
    rw [this, hk]; rfl
  | coe a =>
    have hk : ∀ k, ∃ b : ℝ, x k = b ∧ gathered x q k = ((a - b : ℝ) : EReal) := by
      intro k; induction k with
      | zero => exact ⟨a, hx0, by simp [gathered]⟩
      | succ k ih =>
        obtain ⟨b, hb, hg⟩ := ih
        refine ⟨b - r k, by rw [hx, hb, hr]; norm_cast, ?_⟩
        simp only [gathered]
        rw [hg, hb, hr]; norm_cast; ring_nf
    obtain ⟨b, hb, hg⟩ := hk (n + 1)
    rw [hg, hb]
    rfl

/-- A real factor that is not negative may be taken out of a sum. -/
theorem add_mul_real (x y : EReal) {c : ℝ} (hc : 0 ≤ c) : (x + y) * (c : EReal) = x * c + y * c :=
  EReal.right_distrib_of_nonneg_of_ne_top (by exact_mod_cast hc) (EReal.coe_ne_top c) x y

end Cert.Proof

end
-- ==== Proof.Words.lean ====
/-
  What the programs' number words denote among the extended reals, and what a small whole number becomes when it is
  read as a float or cut back to a word.
-/
module

public import Idealize.ShloMosaic.PureOps.Ideal.Laws
public import proofs.«01_k».proof.Proof.Spec

@[expose] public section

noncomputable section

namespace Cert.Proof

open Idealize.ShloMosaic

/-- The word of plus infinity. -/
theorem word_top : Ideal.ofBits .f32 0x7F800000#32 = ⊤ := by
  simp [Ideal.ofBits, Ideal.ieee]

/-- The word of 1024. -/
theorem word_1024 : Ideal.ofBits .f32 0x44800000#32 = ((1024 : ℝ) : EReal) := by
  simp [Ideal.ofBits, Ideal.ieee, -EReal.coe_mul]; norm_num

/-- The word of 2. -/
theorem word_two : Ideal.ofBits .f32 0x40000000#32 = 2 := by
  have : (2 : EReal) = ((2 : ℝ) : EReal) := rfl
  rw [this]
  simp [Ideal.ofBits, Ideal.ieee, -EReal.coe_mul]; norm_num

/-- The word of 2097152. -/
theorem word_count : Ideal.ofBits .f32 0x4A000000#32 = ((2097152 : ℝ) : EReal) := by
  simp [Ideal.ofBits, Ideal.ieee, -EReal.coe_mul]; norm_num

/-- A number below 1024, read as a float. -/
theorem sitofp_small (j : Fin 1024) : (FloatOps.sitofp (F := Ideal) .f32 (BitVec.ofNat 32 j.val)) = ((j.val : ℝ) : EReal) := by
  have h : (BitVec.ofNat 32 j.val).toInt = (j.val : ℤ) := by
    have := j.isLt
    rw [BitVec.toInt_eq_toNat_cond, BitVec.toNat_ofNat, Nat.mod_eq_of_lt (by omega)]
    rw [if_pos (by omega)]
  show (((BitVec.ofNat 32 j.val).toInt : ℝ) : EReal) = _
  rw [h]; norm_cast

/-- A truth value, widened and read as a float. -/
theorem sitofp_bool (p : Prop) [Decidable p] : (FloatOps.sitofp (F := Ideal) .f32 (BitVec.setWidth 32 (BitVec.ofBool (decide p)))) = if p then (1 : EReal) else 0 := by
  show ((((BitVec.setWidth 32 (BitVec.ofBool (decide p))).toInt : ℤ) : ℝ) : EReal) = _
  by_cases h : p
  · simp only [h, decide_true, if_true]
    have : (BitVec.setWidth 32 (BitVec.ofBool true)).toInt = 1 := by decide
    rw [this]; norm_cast
  · simp only [h, decide_false, if_false]
    have : (BitVec.setWidth 32 (BitVec.ofBool false)).toInt = 0 := by decide
    rw [this]; norm_cast

/-- A whole number below 1024, cut back to a word. -/
theorem fptosi_small (j : Fin 1024) : FloatOps.fptosi (F := Ideal) (φ := .f32) 32 ((j.val : ℝ) : EReal) = BitVec.ofNat 32 j.val := by
  show BitVec.ofInt 32 (Ideal.toIntClamped _ _ ((j.val : ℝ) : EReal)) = _
  have h : Ideal.toIntClamped (-(2 ^ (32 - 1) : Nat)) ((2 ^ (32 - 1) : Nat) - 1) ((j.val : ℝ) : EReal) = (j.val : ℤ) := by
    show max (-((2 ^ (32 - 1) : Nat) : ℤ)) (min (((2 ^ (32 - 1) : Nat) : ℤ) - 1) (if (0 : ℝ) ≤ (j.val : ℝ) then ⌊(j.val : ℝ)⌋ else ⌈(j.val : ℝ)⌉)) = _
    rw [if_pos (by positivity), Int.floor_natCast]
    have := j.isLt
    norm_num
    omega
  rw [h]
  simp

end Cert.Proof

end
-- ==== Proof.Finite.lean ====
module

public import proofs.«01_k».proof.Defs
public import proofs.«01_k».proof.Proof.Gen.Pre_codebooks_finite
public import proofs.«01_k».proof.Proof.Words
public import Idealize.ShloMosaic.Lib.Pointwise
public import Idealize.ShloMosaic.Lib.ReduceAll

/-! What the precondition says: every entry of the codebooks is a real number. -/

@[expose] public section

noncomputable section

namespace Cert.Proof

open Idealize.ShloMosaic Cert.Pre_codebooks_finite Cert.Pre_codebooks_finite.Gen

/-- An extended real whose size is less than infinity is a real number. -/
theorem real_of_abs_lt (x : EReal) (h : max x (-x) < ⊤) : ∃ r : ℝ, x = (r : EReal) := by
  induction x using EReal.rec with
  | bot => simp at h
  | top => simp at h
  | coe r => exact ⟨r, rfl⟩

/-- The precondition's function is one only where every entry of the codebooks is a real number. -/
theorem finite_of_fn (x : S8x256x2048.Idx → EReal) (w : S128x256.Idx → EReal) (v : S128.Idx → EReal) (c : S4x1024x128.Idx → EReal)
    (w' : S256x128.Idx → EReal) (v' : S256.Idx → EReal) (h : fn (F := Ideal) x w v c w' v' = fun _ => 1#1) (i : S4x1024x128.Idx) : ∃ r : ℝ, c i = (r : EReal) := by
  have h0 := congrFun h (fun a => a.elim0)
  unfold fn at h0
  haveI : Subsingleton S_.Idx := ⟨fun a b => funext fun k => k.elim0⟩
  have h1 := Host.reduce_andi_all _ _ _ _ _ h0 i
  refine real_of_abs_lt (c i) ?_
  rw [← word_top]
  by_contra hn
  have h2 : BitVec.ofBool (decide (max (c i) (-c i) < Ideal.ofBits .f32 0x7F800000#32)) = 1#1 := h1
  rw [decide_eq_false hn] at h2
  exact absurd h2 (by decide)

end Cert.Proof

end
-- ==== Proof.Kernel.Vocabulary.lean ====
/-
  The words in which the idealized kernel's block is described. One grid point handles one batch: it projects a
  256×2048 block to 2048 rows of length 128, and quantises the two halves of those rows with four codebooks in turn.
  Each definition below is one step of that, over any reading of the floats; nothing here is proved but bounds.
-/
module

public import proofs.«01_k».proof.Proof.Gen.KernelIdeal.Frame
public import Idealize.ShloMosaic.Lib.Pipeline.Value

@[expose] public section

set_option maxRecDepth 16384

noncomputable section

namespace Cert.Proof.Kernel

open Idealize.ShloMosaic Idealize.ShloMosaic.TcCoe Cert.KernelIdeal Cert.KernelIdeal.Gen

variable {F : FTy → Type} [FloatOps F]

/-- Plane `k` of four lies inside the array. -/
theorem plane_fits (n d k : ℕ) : ∀ a : Fin 3, (![k % 4, 0, 0] : Fin 3 → ℕ) a + (![1, n, d] : Fin 3 → ℕ) a ≤ (![4, n, d] : Fin 3 → ℕ) a := by
  have := Nat.mod_lt k (show 0 < 4 by decide)
  intro a; fin_cases a <;> simp <;> omega

/-- Row `k` of four lies inside the array. -/
theorem line_fits (n k : ℕ) : ∀ a : Fin 2, (![k % 4, 0] : Fin 2 → ℕ) a + (![1, n] : Fin 2 → ℕ) a ≤ (![4, n] : Fin 2 → ℕ) a := by
  have := Nat.mod_lt k (show 0 < 4 by decide)
  intro a; fin_cases a <;> simp <;> omega

/-- Codebook `k` of a stack of four. -/
def slab (x : Vec F S4x1024x128 .f32) (k : ℕ) : Vec F S1x1024x128 .f32 :=
  View.ld (Val := Elt F) x (Rect.unit ![k % 4, 0, 0] ![1, 1024, 128] (plane_fits 1024 128 k))

/-- Codebook `k` of the stack that holds each codebook in three parts side by side. -/
def parts (x : Vec F S4x1024x384 .bf16) (k : ℕ) : Vec F S1x1024x384 .bf16 :=
  View.ld (Val := Elt F) x (Rect.unit ![k % 4, 0, 0] ![1, 1024, 384] (plane_fits 1024 384 k))

/-- Row `k` of the table of squared norms. -/
def norms (n : Vec F S4x1024 .f32) (k : ℕ) : Vec F S1x1024 .f32 :=
  View.ld (Val := Elt F) n (Rect.unit ![k % 4, 0] ![1, 1024] (line_fits 1024 k))

/-- The least entry of each row of a square, as a column. -/
def least (d : FVec F S1024x1024 .f32) : FVec F S1024x1 .f32 :=
  shapeCast S1024x1 (multiReduction .minimumf [1] S1024 d 0x7F800000#32 reduces_S1024x1024_S1024 (.inl rfl) rfl) shapeCasts_S1024_S1024x1

/-- The squared distance of each of 1024 rows to each of 1024 code words: `‖r‖² − ⟨r, 2c⟩ + ‖c‖²`. -/
def distances (r : FVec F S1024x128 .f32) (twice : Vec F S1x1024x128 .f32) (n : Vec F S1x1024 .f32) : FVec F S1024x1024 .f32 :=
  addf (subf (broadcastTo S1024x1024 (shapeCast S1024x1 (multiReduction .add [1] S1024 (mulf r r) 0x00000000#32 reduces_S1024x128_S1024 (.inl rfl) rfl) shapeCasts_S1024_S1024x1) broadcasts_S1024x1_S1024x1024)
      (matmul dot_S1024x128_S1024x128_S1024x1024_1_1_0_0_n_n none r (shapeCast S1024x128 twice shapeCasts_S1x1024x128_S1024x128) (constant S1024x1024 .f32 0x00000000#32)))
    (broadcastTo S1024x1024 n broadcasts_S1x1024_S1024x1024)

/-- Each column's number where the row has its least distance, and 1024 elsewhere. -/
def candidates (d : FVec F S1024x1024 .f32) : FVec F S1024x1024 .f32 :=
  select (cmpf .oeq d (broadcastTo S1024x1024 (least d) broadcasts_S1024x1_S1024x1024)) k0_pay11 (broadcast S1024x1024 (Scalar.ofBits .f32 0x44800000#32))

/-- The first column at which each row has its least distance, as a float. -/
def first (d : FVec F S1024x1024 .f32) : FVec F S1024x1 .f32 := least (candidates d)

/-- One where the column is the chosen one, zero elsewhere. -/
def chosen (d : FVec F S1024x1024 .f32) : FVec F S1024x1024 .bf16 :=
  truncf .bf16 (sitofp .f32 (extui 32 (cmpf .oeq (candidates d) (broadcastTo S1024x1024 (first d) broadcasts_S1024x1_S1024x1024)) natLt_1_32)) bitsLt_bf16_f32

/-- The chosen row of all three parts. -/
def chosenParts (d : FVec F S1024x1024 .f32) (cat : Vec F S1x1024x384 .bf16) : FVec F S1024x384 .f32 :=
  matmul dot_S1024x1024_S1024x384_S1024x384_1_0_0_1_n_n none (chosen d) (shapeCast S1024x384 cat shapeCasts_S1x1024x384_S1024x384) (constant S1024x384 .f32 0x00000000#32)

/-- The chosen code word: the three parts of the chosen row, added up. -/
def word (d : FVec F S1024x1024 .f32) (cat : Vec F S1x1024x384 .bf16) : FVec F S1024x128 .f32 :=
  addf (addf (extractStridedSlice S1024x128 ![0, 0] (chosenParts d cat) slices_S1024x384_o0_0_S1024x128)
      (extractStridedSlice S1024x128 ![0, 128] (chosenParts d cat) slices_S1024x384_o0_128_S1024x128))
    (extractStridedSlice S1024x128 ![0, 256] (chosenParts d cat) slices_S1024x384_o0_256_S1024x128)

/-- What one codebook leaves of 1024 rows. -/
def next (r : FVec F S1024x128 .f32) (twice : Vec F S1x1024x128 .f32) (cat : Vec F S1x1024x384 .bf16) (n : Vec F S1x1024 .f32) : FVec F S1024x128 .f32 :=
  subf r (word (distances r twice n) cat)

/-- What the first `k` codebooks leave of the 1024 rows `r`. -/
def left (r : FVec F S1024x128 .f32) (x4 : Vec F S4x1024x128 .f32) (x5 : Vec F S4x1024x384 .bf16) (n : Vec F S4x1024 .f32) : ℕ → FVec F S1024x128 .f32
  | 0 => r
  | k + 1 => next (left r x4 x5 n k) (slab x4 k) (parts x5 k) (norms n k)

/-- The column numbers codebook `k` chooses for the 1024 rows that start as `r`. -/
def column (r : FVec F S1024x128 .f32) (x4 : Vec F S4x1024x128 .f32) (x5 : Vec F S4x1024x384 .bf16) (n : Vec F S4x1024 .f32) (k : ℕ) : IVec S1x1024x1 32 :=
  shapeCast S1x1024x1 (fptosi 32 (first (distances (left r x4 x5 n k) (slab x4 k) (norms n k)))) shapeCasts_S1024x1_S1x1024x1

/-- The sum of the squares of 1024 rows. -/
def energy (r : FVec F S1024x128 .f32) : F .f32 :=
  extractAt ![0, 0, 0] (shapeCast S1x1x1 (multiReduction .add [1, 2] S1 (shapeCast S1x1024x128 (mulf r r) shapeCasts_S1024x128_S1x1024x128) 0x00000000#32 reduces_S1x1024x128_S1 (.inl rfl) rfl) shapeCasts_S1_S1x1x1) inpos_S1x1x1_p0_0_0

/-- The first half of the projected rows. -/
def lower (p : FVec F S2048x128 .f32) : FVec F S1024x128 .f32 := extractStridedSlice S1024x128 ![0, 0] p slices_S2048x128_o0_0_S1024x128

/-- The second half of the projected rows. -/
def upper (p : FVec F S2048x128 .f32) : FVec F S1024x128 .f32 := extractStridedSlice S1024x128 ![1024, 0] p slices_S2048x128_o1024_0_S1024x128

/-- The sum of the squares of what each of the first `k` codebooks leaves, over both halves. -/
def losses (p : FVec F S2048x128 .f32) (x4 : Vec F S4x1024x128 .f32) (x5 : Vec F S4x1024x384 .bf16) (n : Vec F S4x1024 .f32) : ℕ → F .f32
  | 0 => Scalar.ofBits .f32 0x00000000#32
  | k + 1 => Scalar.addf (Scalar.addf (losses p x4 x5 n k) (energy (left (lower p) x4 x5 n (k + 1)))) (energy (left (upper p) x4 x5 n (k + 1)))

/-- The quantised rows of the block: the projected rows less what four codebooks leave of them. -/
def quantized (p : FVec F S2048x128 .f32) (x4 : Vec F S4x1024x128 .f32) (x5 : Vec F S4x1024x384 .bf16) (n : Vec F S4x1024 .f32) : FVec F S2048x128 .f32 :=
  subf p (concatenate S2048x128 0 [⟨S1024x128, left (lower p) x4 x5 n 4⟩, ⟨S1024x128, left (upper p) x4 x5 n 4⟩] concatenates_S1024x128_S1024x128_S2048x128_d0)

/-- The column of four at which codebook `k`'s numbers are stored, for the rows from `t` on. -/
theorem store_fits (t k : ℕ) (ht : t + 1024 ≤ 2048) : ∀ a : Fin 3, (![0, t, k % 4] : Fin 3 → ℕ) a + (![1, 1024, 1] : Fin 3 → ℕ) a ≤ (![1, 2048, 4] : Fin 3 → ℕ) a := by
  have := Nat.mod_lt k (show 0 < 4 by decide)
  intro a; fin_cases a <;> simp <;> omega

/-- The store of codebook `k`'s numbers for the rows from `t` on. -/
def store (t : ℕ) (ht : t + 1024 ≤ 2048) (k : ℕ) (w : IVec S1x1024x1 32) : View.Piece (Elt F) S1x2048x4 .i32 :=
  ⟨Rect.unit ![0, t, k % 4] ![1, 1024, 1] (store_fits t k ht), w⟩

/-- The two stores codebook `k` makes, the later one first. -/
def stores (p : FVec F S2048x128 .f32) (x4 : Vec F S4x1024x128 .f32) (x5 : Vec F S4x1024x384 .bf16) (n : Vec F S4x1024 .f32) (k : ℕ) : List (View.Piece (Elt F) S1x2048x4 .i32) :=
  [store 1024 (by decide) k (column (upper p) x4 x5 n k), store 0 (by decide) k (column (lower p) x4 x5 n k)]

/-- The block of column numbers: the eight stores, the last one first. -/
def codesBlock (p : FVec F S2048x128 .f32) (x4 : Vec F S4x1024x128 .f32) (x5 : Vec F S4x1024x384 .bf16) (n : Vec F S4x1024 .f32) : Vec F S1x2048x4 .i32 :=
  View.canon (Val := Elt F) (stores p x4 x5 n 3 ++ (stores p x4 x5 n 2 ++ (stores p x4 x5 n 1 ++ stores p x4 x5 n 0)))

/-- The store of codebook `k`'s squared norms. -/
def normStore (x3 : Vec F S4x1024x128 .f32) (k : ℕ) : View.Piece (Elt F) S4x1024 .f32 :=
  ⟨Rect.unit ![k % 4, 0] ![1, 1024] (line_fits 1024 k), k0_pay4 (slab x3 k)⟩

/-- The table of the squared norms of the code words, filled row by row. -/
def normTable (x3 : Vec F S4x1024x128 .f32) : Vec F S4x1024 .f32 :=
  View.canon (Val := Elt F) [normStore x3 3, normStore x3 2, normStore x3 1, normStore x3 0]

end Cert.Proof.Kernel

end
-- ==== Proof.Kernel.Block.lean ====
/-
  What the body leaves in each output's block and in its table of norms, in the words of Vocabulary.lean: at the first
  grid point, which fills the table, and at the others, which read it.
-/
module

public import proofs.«01_k».proof.Proof.Kernel.Vocabulary
public import Idealize.ShloMosaic.Lib.Tactic
public import Idealize.ShloMosaic.Lib.Pipeline.ValueKit.Acc

@[expose] public section

set_option maxRecDepth 16384

noncomputable section

namespace Cert.Proof.Kernel

open Idealize.ShloMosaic Idealize.ShloMosaic.TcCoe Idealize.SL.Sem Cert.KernelIdeal Cert.KernelIdeal.Gen

variable {F : FTy → Type} [FloatOps F]
/-- A load through a rectangle, after any stores, reads what the stores left, at the rectangle's places. -/
theorem readCov_eq_ld {sig : RefSig} {κ : Kind} {sp : Space} {s : Shape} {e : EltTy} {Val : EltTy → Type} [∀ e, Nonempty (Val e)]
    (v : View sig κ sp s e) (L : List (View.Piece Val s e)) (r : Rect s) :
    v.readCov L r.toLoadRect = View.ld (View.canon L) r := View.readCov_eq_canon' v L r.toLoadRect

variable (c : Dev nD) (i : grid0.Coords) (arg2 : Memref sig .tc .vmem S1x256x2048 .f32) (harg2 : arg2.IsWhole) (arg3 : Memref sig .tc .vmem S128x256 .f32) (harg3 : arg3.IsWhole) (arg4 : Memref sig .tc .vmem S1x128 .f32) (harg4 : arg4.IsWhole) (arg5 : Memref sig .tc .vmem S4x1024x128 .f32) (harg5 : arg5.IsWhole) (arg6 : Memref sig .tc .vmem S4x1024x128 .f32) (harg6 : arg6.IsWhole) (arg7 : Memref sig .tc .vmem S4x1024x384 .bf16) (harg7 : arg7.IsWhole) (arg8 : Memref sig .tc .vmem S256x128 .f32) (harg8 : arg8.IsWhole) (arg9 : Memref sig .tc .vmem S256x1 .f32) (harg9 : arg9.IsWhole) (arg10 : Memref sig .tc .vmem S1x256x2048 .f32) (harg10 : arg10.IsWhole) (arg11 : Memref sig .tc .vmem S1x2048x4 .i32) (harg11 : arg11.IsWhole) (arg12 : Memref sig .tc .vmem S1x1 .f32) (harg12 : arg12.IsWhole) (arg13 : Memref sig .tc .vmem S4x1024 .f32) (harg13 : arg13.IsWhole)
    (x0 : Vec F S1x256x2048 .f32) (x1 : Vec F S128x256 .f32) (x2 : Vec F S1x128 .f32) (x3 : Vec F S4x1024x128 .f32) (x4 : Vec F S4x1024x128 .f32) (x5 : Vec F S4x1024x384 .bf16) (x6 : Vec F S256x128 .f32) (x7 : Vec F S256x1 .f32)  (xo10 : Vec F S1x1 .f32) (xs0 : Vec F S4x1024 .f32)

set_option maxHeartbeats 400000
/-- A later point leaves the table as it was. -/
theorem scratch_B (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo10 xs0 = xs0 := by
  rfl

/-- At a later point the first output's block is the quantised rows, projected back, the second's the chosen column numbers, and
    the third is the block's loss added to what was there. -/
theorem outs_B (hc0 : ¬cond0_0 i) (hc1 : ¬cond0_1 i) :
    out0_B_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo10 xs0 = k0_pay1 (quantized (k0_pay8 x0 x1 x2) x4 x5 xs0) x6 x7
      ∧ out0_B_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo10 xs0 = codesBlock (k0_pay8 x0 x1 x2) x4 x5 xs0
      ∧ out0_B_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo10 xs0 = k0_pay3 (losses (k0_pay8 x0 x1 x2) x4 x5 xs0 4) xo10 := by
  unfold out0_B_8 out0_B_9 out0_B_10
  refine ⟨?_, ?_, ?_⟩
  all_goals
    rw [View.read_writes_junk_eq_canon]
    unfold kernelRun0_B
    dsimp only
    sl_unfold_words
    simp (disch := decide) only [View.readAt_eq_ld, readCov_eq_ld, harg2.read_unread, harg3.read_unread, harg4.read_unread, harg5.read_unread, harg6.read_unread, harg7.read_unread, harg8.read_unread, harg9.read_unread,
      harg12.read_unread, harg13.read_unread, View.ld_unit_lit, View.canon_cons_unit_lit']
    dsimp only [k0_pay3, k0_pay4, k0_pay5, k0_pay6, k0_pay7, k0_pay9, k0_pay10, k0_pay12, k0_pay13, k0_pay14, k0_pay15, k0_pay16, k0_pay17, k0_pay18,
      k0_pay19, k0_pay20, k0_pay21, k0_pay22, k0_pay23, k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60, k0_pay61, k0_pay62, k0_pay63,
      k0_pay64, k0_pay65, k0_pay66, normTable, normStore, codesBlock, stores, store, column, losses, energy, quantized, left, next, word, chosenParts,
      chosen, first, candidates, least, distances, slab, parts, norms, lower, upper, List.cons_append, List.nil_append, Nat.reduceMod, Nat.zero_mod,
      Nat.reduceAdd]

/-- The first point fills the table of squared norms, finds the loss zero, and leaves the same in the outputs. -/
theorem outs_A (hc0 : cond0_0 i) (hc1 : cond0_1 i) :
    out0_A_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay1 (quantized (k0_pay8 x0 x1 x2) x4 x5 (normTable x3)) x6 x7
      ∧ out0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = codesBlock (k0_pay8 x0 x1 x2) x4 x5 (normTable x3)
      ∧ out0_A_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay3 (losses (k0_pay8 x0 x1 x2) x4 x5 (normTable x3) 4) k0_pay2
      ∧ sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = normTable x3 := by
  unfold out0_A_8 out0_A_9 out0_A_10 sout0_A_0
  refine ⟨?_, ?_, ?_, ?_⟩
  all_goals
    rw [View.read_writes_junk_eq_canon]
    unfold kernelRun0_A
    dsimp only
    sl_unfold_words
    simp (disch := decide) only [View.readAt_eq_ld, readCov_eq_ld, harg2.read_unread, harg3.read_unread, harg4.read_unread, harg5.read_unread, harg6.read_unread, harg7.read_unread, harg8.read_unread, harg9.read_unread,
      View.ld_unit_lit, View.canon_cons_unit_lit']
    dsimp only [k0_pay3, k0_pay4, k0_pay5, k0_pay6, k0_pay7, k0_pay9, k0_pay10, k0_pay12, k0_pay13, k0_pay14, k0_pay15, k0_pay16, k0_pay17, k0_pay18,
      k0_pay19, k0_pay20, k0_pay21, k0_pay22, k0_pay23, k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60, k0_pay61, k0_pay62, k0_pay63,
      k0_pay64, k0_pay65, k0_pay66, normTable, normStore, codesBlock, stores, store, column, losses, energy, quantized, left, next, word, chosenParts,
      chosen, first, candidates, least, distances, slab, parts, norms, lower, upper, List.cons_append, List.nil_append, Nat.reduceMod, Nat.zero_mod,
      Nat.reduceAdd]

end Cert.Proof.Kernel

end
-- ==== Proof.Results.lean ====
module

public import proofs.«01_k».proof.Proof.Words
public import Idealize.ShloMosaic.Lib.Pointwise

/-! What the four codebooks make of a batch of rows, in numbers: the rows to be coded, the output, the words' numbers and the loss. -/

@[expose] public section

noncomputable section

namespace Cert.Proof

open Idealize.ShloMosaic Finset

abbrev Inputs := (⟨3, ![8, 256, 2048]⟩ : Shape).Idx → EReal
abbrev Books := (⟨3, ![4, 1024, 128]⟩ : Shape).Idx → EReal

/-- Codebook `k` of the stack of four (counted round again from the fourth on). -/
def books (c : Books) (k : ℕ) : Book := fun j e => c (ix3 (Fin.ofNat 4 k) j e)

/-- The row to be coded at a batch and a time: the first projection of the input. -/
def coded (x : Inputs) (w : (⟨2, ![128, 256]⟩ : Shape).Idx → EReal) (v : (⟨1, ![128]⟩ : Shape).Idx → EReal) (b : Fin 8) (t : Fin 2048) : Row :=
  fun e => (∑ h, x (ix3 b h t) * w (ix2 e h)) + v (ix1 e)

abbrev Rows := Fin 8 → Fin 2048 → Row

/-- The output: the second projection of what the four words make up. -/
def output (ρ : Rows) (C : ℕ → Book) (w : (⟨2, ![256, 128]⟩ : Shape).Idx → EReal) (v : (⟨1, ![256]⟩ : Shape).Idx → EReal) (b : Fin 8) (h : Fin 256) (t : Fin 2048) : EReal :=
  (∑ e, w (ix2 h e) * (ρ b t e - rest (ρ b t) C 4 e)) + v (ix1 h)

/-- The mean square of what is left after codebook `k`. -/
def cost (ρ : Rows) (C : ℕ → Book) (k : ℕ) : EReal := Ideal.div (∑ b, ∑ t, square (rest (ρ b t) C (k + 1))) (Ideal.ofBits .f32 0x4A000000#32)

/-- The loss of the first `n` codebooks. -/
def loss (ρ : Rows) (C : ℕ → Book) (n : ℕ) : EReal := ∑ k ∈ range n, cost ρ C k

/-- The array of the output. -/
def outputs (ρ : Rows) (C : ℕ → Book) (w : (⟨2, ![256, 128]⟩ : Shape).Idx → EReal) (v : (⟨1, ![256]⟩ : Shape).Idx → EReal) : (⟨3, ![8, 256, 2048]⟩ : Shape).Idx → EReal :=
  fun i => output ρ C w v (i 0) (i 1) (i 2)

/-- The array of the numbers of codebook `k`'s words. -/
def numbers (ρ : Rows) (C : ℕ → Book) (k : ℕ) : (⟨2, ![8, 2048]⟩ : Shape).Idx → BitVec 32 := fun i => BitVec.ofNat 32 (code (ρ (i 0) (i 1)) C k).val

/-- An array of the output's shape with the output at every place is the array of the output. -/
theorem eq_outputs {ρ : Rows} {C : ℕ → Book} {w : (⟨2, ![256, 128]⟩ : Shape).Idx → EReal} {v : (⟨1, ![256]⟩ : Shape).Idx → EReal}
    {x : (⟨3, ![8, 256, 2048]⟩ : Shape).Idx → EReal} (h : ∀ b a t, x (ix3 b a t) = output ρ C w v b a t) : x = outputs ρ C w v :=
  funext fun i => (congrArg x (eq_ix3 i)).trans (h (i 0) (i 1) (i 2))

/-- An array with the numbers of codebook `k`'s words at every place is the array of them. -/
theorem eq_numbers {ρ : Rows} {C : ℕ → Book} {k : ℕ} {x : (⟨2, ![8, 2048]⟩ : Shape).Idx → BitVec 32}
    (h : ∀ b t, x (ix2 b t) = BitVec.ofNat 32 (code (ρ b t) C k).val) : x = numbers ρ C k :=
  funext fun i => (congrArg x (eq_ix2 i)).trans (h (i 0) (i 1))

/-- Dividing by the number of values multiplies by a real that is not negative. -/
theorem div_count (x : EReal) : Ideal.div x (Ideal.ofBits .f32 0x4A000000#32) = x * (((2097152 : ℝ)⁻¹ : ℝ) : EReal) := by
  rw [word_count]
  unfold Ideal.div
  rw [if_neg (by exact_mod_cast (by norm_num : (2097152 : ℝ) ≠ 0))]
  rfl

/-- A sum may be divided by the number of values term by term. -/
theorem sum_div_count {ι : Type} (s : Finset ι) (f : ι → EReal) :
    Ideal.div (∑ i ∈ s, f i) (Ideal.ofBits .f32 0x4A000000#32) = ∑ i ∈ s, Ideal.div (f i) (Ideal.ofBits .f32 0x4A000000#32) := by
  classical
  simp only [div_count]
  induction s using Finset.induction_on with
  | empty => simp
  | insert a s ha ih => rw [sum_insert ha, sum_insert ha, add_mul_real _ _ (by positivity), ih]

/-- The loss, with the squares summed batch by batch and divided once. -/
theorem loss_by_batch (ρ : Rows) (C : ℕ → Book) (n : ℕ) :
    Ideal.div (∑ b, ∑ k ∈ range n, ∑ t, square (rest (ρ b t) C (k + 1))) (Ideal.ofBits .f32 0x4A000000#32) = loss ρ C n := by
  rw [sum_comm, sum_div_count]
  rfl

end Cert.Proof

end
-- ==== Proof.Kernel.Read.lean ====
/-
  The block's words, read at one place: each is the mathematics of Spec.lean on the row at that place, as soon as the
  tables the block is given are those of a codebook.
-/
module

public import proofs.«01_k».proof.Proof.Kernel.Vocabulary
public import proofs.«01_k».proof.Proof.Results
public import Idealize.ShloMosaic.Lib.Pointwise

@[expose] public section

set_option maxRecDepth 16384

noncomputable section

namespace Cert.Proof.Kernel

open Idealize.ShloMosaic Idealize.ShloMosaic.TcCoe Cert.KernelIdeal Cert.KernelIdeal.Gen Cert.Proof

/-- Row `t` of a matrix with 128 columns. -/
def row {n : ℕ} (p : (⟨2, ![n, 128]⟩ : Shape).Idx → EReal) (t : Fin n) : Row := fun e => p (ix2 t e)

/-- The tables a block is given belong to the codebooks `cb`: the codebooks doubled, the codebooks in three parts of
    which the first is the whole, and the squared norms of the words. -/
structure Tables (cb x4 : Vec Ideal S4x1024x128 .f32) (x5 : Vec Ideal S4x1024x384 .bf16) (n : Vec Ideal S4x1024 .f32) : Prop where
  doubled : ∀ k j e, x4 (ix3 k j e) = cb (ix3 k j e) * 2
  whole : ∀ k j (e : Fin 128), x5 (ix3 k j ⟨e.val, by omega⟩) = cb (ix3 k j e)
  middle : ∀ k j (e : Fin 128), x5 (ix3 k j ⟨128 + e.val, by omega⟩) = 0
  last : ∀ k j (e : Fin 128), x5 (ix3 k j ⟨256 + e.val, by omega⟩) = 0
  normed : ∀ (k : Fin 4) (j : Fin 1024), n (ix2 k j) = square fun e => cb (ix3 k j e)

/-- The least entry of row `t`. -/
theorem least_at (d : FVec Ideal S1024x1024 .f32) (t : Fin 1024) (u : Fin 1) : least d (ix2 t u) = Finset.univ.inf fun j => d (ix2 t j) := by
  pointwise [least]
  rw [word_top]; rfl

/-- The candidates of row `t`. -/
theorem candidates_at (d : FVec Ideal S1024x1024 .f32) (t j : Fin 1024) : candidates d (ix2 t j) = numbered (fun i => d (ix2 t i)) j := by
  pointwise [candidates, k0_pay11]
  rw [least_at, sitofp_small, word_1024]; rfl

/-- The first column at which row `t` has its least entry. -/
theorem first_at (d : FVec Ideal S1024x1024 .f32) (t : Fin 1024) (u : Fin 1) : first d (ix2 t u) = (((pick fun i => d (ix2 t i)).val : ℝ) : EReal) := by
  rw [first, least_at]; simp only [candidates_at]; exact inf_numbered _

/-- One at that column, zero elsewhere. -/
theorem chosen_at (d : FVec Ideal S1024x1024 .f32) (t j : Fin 1024) : chosen d (ix2 t j) = if j = pick (fun i => d (ix2 t i)) then (1 : EReal) else 0 := by
  pointwise [chosen]
  rw [sitofp_bool]
  refine if_congr ?_ rfl rfl
  rw [candidates_at, first_at, ← inf_numbered]
  exact numbered_eq_iff _ j

/-- The chosen word's three parts, added. -/
theorem word_at (d : FVec Ideal S1024x1024 .f32) (cat : Vec Ideal S1x1024x384 .bf16) (t : Fin 1024) (e : Fin 128) :
    word d cat (ix2 t e) = cat (ix3 0 (pick fun i => d (ix2 t i)) ⟨e.val, by omega⟩) + cat (ix3 0 (pick fun i => d (ix2 t i)) ⟨128 + e.val, by omega⟩)
      + cat (ix3 0 (pick fun i => d (ix2 t i)) ⟨256 + e.val, by omega⟩) := by
  pointwise [word, chosenParts]
  simp only [chosen_at, sum_select]

/-- Codebook `k` of a stack. -/
theorem slab_at (x : Vec Ideal S4x1024x128 .f32) (k : ℕ) (a : Fin 1) (t : Fin 1024) (e : Fin 128) : slab x k (ix3 a t e) = x (ix3 (Fin.ofNat 4 k) t e) := by
  pointwise [slab]
  rfl

/-- Codebook `k` of the stack in parts. -/
theorem parts_at (x : Vec Ideal S4x1024x384 .bf16) (k : ℕ) (a : Fin 1) (t : Fin 1024) (e : Fin 384) : parts x k (ix3 a t e) = x (ix3 (Fin.ofNat 4 k) t e) := by
  pointwise [parts]
  rfl

/-- Row `k` of the table of norms. -/
theorem norms_at (x : Vec Ideal S4x1024 .f32) (k : ℕ) (a : Fin 1) (t : Fin 1024) : norms x k (ix2 a t) = x (ix2 (Fin.ofNat 4 k) t) := by
  pointwise [norms]
  rfl

section Tables

variable {cb x4 : Vec Ideal S4x1024x128 .f32} {x5 : Vec Ideal S4x1024x384 .bf16} {n : Vec Ideal S4x1024 .f32}

/-- The distances of row `t`. -/
theorem distances_at (T : Tables cb x4 x5 n) (r : FVec Ideal S1024x128 .f32) (k : ℕ) (t j : Fin 1024) :
    distances r (slab x4 k) (norms n k) (ix2 t j) = distance (row r t) (books cb k) j := by
  pointwise [distances]
  simp only [slab_at, norms_at, T.doubled, T.normed, ← mul_assoc, sum_mul_two]
  rfl

/-- One codebook's step on row `t`. -/
theorem next_at (T : Tables cb x4 x5 n) (r : FVec Ideal S1024x128 .f32) (k : ℕ) (t : Fin 1024) (e : Fin 128) :
    next r (slab x4 k) (parts x5 k) (norms n k) (ix2 t e) = row r t e - books cb k (pick (distance (row r t) (books cb k))) e := by
  rw [next, subf_apply, word_at]
  simp only [distances_at T, parts_at, T.whole, T.middle, T.last, add_zero]
  rfl

/-- What `k` codebooks leave of row `t`. -/
theorem left_at (T : Tables cb x4 x5 n) (r : FVec Ideal S1024x128 .f32) (k : ℕ) (t : Fin 1024) :
    row (left r x4 x5 n k) t = rest (row r t) (books cb) k := by
  induction k with
  | zero => rfl
  | succ k ih =>
    funext e
    rw [rest_succ, code, ← ih]
    exact next_at T _ k t e

/-- The numbers codebook `k` chooses. -/
theorem column_at (T : Tables cb x4 x5 n) (r : FVec Ideal S1024x128 .f32) (k : ℕ) (a : Fin 1) (t : Fin 1024) (b : Fin 1) :
    column r x4 x5 n k (ix3 a t b) = BitVec.ofNat 32 (code (row r t) (books cb) k).val := by
  pointwise [column]
  rw [first_at, fptosi_small]
  simp only [distances_at T, left_at T]
  rfl

/-- The sum of the squares of 1024 rows, row by row. -/
theorem energy_at (r : FVec Ideal S1024x128 .f32) : energy r = ∑ t : Fin 1024, square (row r t) := by
  pointwise [energy]
  rfl

/-- The rows of the first half. -/
theorem lower_at (p : FVec Ideal S2048x128 .f32) (t : Fin 1024) : row (lower p) t = row p (Fin.castAdd 1024 t) := by
  funext e
  show lower p (ix2 t e) = _
  pointwise [lower]
  rfl

/-- The rows of the second half. -/
theorem upper_at (p : FVec Ideal S2048x128 .f32) (t : Fin 1024) : row (upper p) t = row p (Fin.natAdd 1024 t) := by
  funext e
  show upper p (ix2 t e) = _
  pointwise [upper]
  rfl

/-- The block's loss: the squares of what each codebook leaves, over all its rows. -/
theorem losses_at (T : Tables cb x4 x5 n) (p : FVec Ideal S2048x128 .f32) (m : ℕ) :
    losses p x4 x5 n m = ∑ k ∈ Finset.range m, ∑ t : Fin 2048, square (rest (row p t) (books cb) (k + 1)) := by
  induction m with
  | zero => exact Ideal.ofBits_zero_f32
  | succ m ih =>
    rw [Finset.sum_range_succ, ← ih, Fin.sum_univ_add (a := 1024) (b := 1024)]
    show losses p x4 x5 n m + _ + _ = _
    rw [energy_at, energy_at]
    simp only [left_at T, lower_at, upper_at, add_assoc]

/-- The quantised rows. -/
theorem quantized_at (T : Tables cb x4 x5 n) (p : FVec Ideal S2048x128 .f32) (t : Fin 2048) (e : Fin 128) :
    quantized p x4 x5 n (ix2 t e) = row p t e - rest (row p t) (books cb) 4 e := by
  pointwise [quantized]
  show row p t e - _ = _
  congr 1
  split_ifs with h
  · show row (left (lower p) x4 x5 n 4) ⟨t.val, h⟩ e = _
    rw [left_at T, lower_at]; rfl
  · show row (left (upper p) x4 x5 n 4) ⟨t.val - 1024, _⟩ e = _
    rw [left_at T, upper_at]
    congr 2
    exact Fin.ext (by show 1024 + (t.val - 1024) = t.val; omega)
  · exact absurd rfl ‹_›

/-- The first output's block. -/
theorem out_at (T : Tables cb x4 x5 n) (p : FVec Ideal S2048x128 .f32) (x6 : Vec Ideal S256x128 .f32) (x7 : Vec Ideal S256x1 .f32)
    (a : Fin 1) (h : Fin 256) (t : Fin 2048) :
    k0_pay1 (quantized p x4 x5 n) x6 x7 (ix3 a h t) = (∑ e : Fin 128, x6 (ix2 h e) * (row p t e - rest (row p t) (books cb) 4 e)) + x7 (ix2 h 0) := by
  pointwise [k0_pay1]
  simp only [quantized_at T]

/-- The projected rows. -/
theorem projected_at (x0 : Vec Ideal S1x256x2048 .f32) (x1 : Vec Ideal S128x256 .f32) (x2 : Vec Ideal S1x128 .f32) (t : Fin 2048) (e : Fin 128) :
    row (k0_pay8 x0 x1 x2) t e = (∑ h : Fin 256, x0 (ix3 0 h t) * x1 (ix2 e h)) + x2 (ix2 0 e) := by
  show k0_pay8 x0 x1 x2 (ix2 t e) = _
  pointwise [k0_pay8]

/-- The block of chosen numbers, at any place. -/
def codesAt (cb : Vec Ideal S4x1024x128 .f32) (p : FVec Ideal S2048x128 .f32) : Vec Ideal S1x2048x4 .i32 := fun y =>
  BitVec.ofNat 32 (code (row p (y 1)) (books cb) (y 2).val).val

/-- A store of a codebook's numbers writes what the block of numbers has there. -/
theorem store_piece (p : FVec Ideal S2048x128 .f32) (t : ℕ) (ht : t + 1024 ≤ 2048) (k : ℕ) (hk : k < 4) (w : IVec S1x1024x1 32)
    (hw : ∀ a (u : Fin 1024) b, w (ix3 a u b) = BitVec.ofNat 32 (code (row p ⟨t + u.val, by omega⟩) (books cb) k).val)
    (x : (store (F := Ideal) t ht k w).1.shape.Idx) : (store (F := Ideal) t ht k w).2 x = codesAt cb p ((store (F := Ideal) t ht k w).1.emb x) := by
  obtain ⟨a, u, b, rfl⟩ : ∃ a u b, x = ix3 (n0 := 1) (n1 := 1024) (n2 := 1) a u b := ⟨x 0, x 1, x 2, by funext i; fin_cases i <;> rfl⟩
  refine (hw a u b).trans ?_
  have h1 : ((store (F := Ideal) t ht k w).1.emb (ix3 a u b)) 1 = (⟨t + u.val, by omega⟩ : Fin 2048) := Fin.ext (by show t + 1 * u.val = t + u.val; omega)
  have h2 : (((store (F := Ideal) t ht k w).1.emb (ix3 a u b)) 2).val = k := by
    show k % 4 + 1 * b.val = k
    rw [Nat.mod_eq_of_lt hk]; omega
  show BitVec.ofNat 32 (code (row p ⟨t + u.val, by omega⟩) (books cb) k).val = BitVec.ofNat 32 (code (row p (((store (F := Ideal) t ht k w).1.emb (ix3 a u b)) 1)) (books cb) (((store (F := Ideal) t ht k w).1.emb (ix3 a u b)) 2).val).val
  rw [h1, h2]

/-- Both stores of a codebook's numbers. -/
theorem stores_piece (T : Tables cb x4 x5 n) (p : FVec Ideal S2048x128 .f32) (k : ℕ) (hk : k < 4) :
    ∀ s ∈ stores p x4 x5 n k, ∀ x : s.1.shape.Idx, s.2 x = codesAt cb p (s.1.emb x) := by
  intro s hs
  rcases List.mem_cons.mp hs with rfl | hs
  · exact store_piece p 1024 _ k hk _ fun a u b => (column_at T _ k a u b).trans (by rw [upper_at]; rfl)
  · rcases List.mem_singleton.mp hs with rfl
    exact store_piece p 0 _ k hk _ fun a u b => (column_at T _ k a u b).trans (by
      rw [lower_at]; congr 3; exact congrArg _ (Fin.ext (by show u.val = 0 + u.val; omega)))

/-- A store covers its 1024 rows at its column. -/
theorem store_covers (t : ℕ) (ht : t + 1024 ≤ 2048) (k : ℕ) (w : IVec S1x1024x1 32) (a : Fin 1) (r : Fin 2048) (b : Fin 4)
    (h : t ≤ r.val) (h' : r.val < t + 1024) (hb : b.val = k % 4) : (ix3 a r b : S1x2048x4.Idx) ∈ (store (F := Ideal) t ht k w).1.set := by
  unfold store
  refine (Rect.mem_set_unit (inb := store_fits t k ht)).mpr fun i => ?_
  fin_cases i
  · show 0 ≤ a.val ∧ a.val < 0 + 1; omega
  · exact ⟨h, h'⟩
  · show k % 4 ≤ b.val ∧ b.val < k % 4 + 1; omega

/-- The place at row `t` of column `k` is under one of codebook `k`'s two stores. -/
theorem stores_cover (p : FVec Ideal S2048x128 .f32) (a : Fin 1) (t : Fin 2048) (k : Fin 4) :
    ∃ s ∈ stores p x4 x5 n k.val, (ix3 a t k : S1x2048x4.Idx) ∈ s.1.set := by
  have hk : k.val = k.val % 4 := by omega
  by_cases h : t.val < 1024
  · exact ⟨store 0 (by decide) k.val (column (lower p) x4 x5 n k.val), List.Mem.tail _ (List.Mem.head _),
      store_covers 0 _ _ _ a t k (by omega) (by omega) hk⟩
  · exact ⟨store 1024 (by decide) k.val (column (upper p) x4 x5 n k.val), List.Mem.head _,
      store_covers 1024 _ _ _ a t k (by omega) (by omega) hk⟩

/-- The block of chosen numbers. -/
theorem codes_at (T : Tables cb x4 x5 n) (p : FVec Ideal S2048x128 .f32) (a : Fin 1) (t : Fin 2048) (k : Fin 4) :
    codesBlock p x4 x5 n (ix3 a t k) = BitVec.ofNat 32 (code (row p t) (books cb) k.val).val := by
  refine View.canon_apply_of_pieces (codesAt cb p) _ ?_ (ix3 a t k) ?_
  · intro s hs
    simp only [List.mem_append] at hs
    rcases hs with hs | hs | hs | hs
    · exact stores_piece T p 3 (by decide) s hs
    · exact stores_piece T p 2 (by decide) s hs
    · exact stores_piece T p 1 (by decide) s hs
    · exact stores_piece T p 0 (by decide) s hs
  · obtain ⟨s, hs, hy⟩ := stores_cover (x4 := x4) (x5 := x5) (n := n) p a t k
    refine ⟨s, ?_, hy⟩
    simp only [List.mem_append]
    fin_cases k
    · exact Or.inr (Or.inr (Or.inr hs))
    · exact Or.inr (Or.inr (Or.inl hs))
    · exact Or.inr (Or.inl hs)
    · exact Or.inl hs

/-- The table of norms, at any place. -/
def normsAt (x3 : Vec Ideal S4x1024x128 .f32) : Vec Ideal S4x1024 .f32 := fun y => square fun e => x3 (ix3 (y 0) (y 1) e)

/-- The store of a codebook's norms writes its words' squared norms. -/
theorem normStore_piece (x3 : Vec Ideal S4x1024x128 .f32) (k : ℕ) (x : (normStore (F := Ideal) x3 k).1.shape.Idx) :
    (normStore (F := Ideal) x3 k).2 x = (normsAt x3) ((normStore (F := Ideal) x3 k).1.emb x) := by
  obtain ⟨a, j, rfl⟩ : ∃ a j, x = ix2 (n0 := 1) (n1 := 1024) a j := ⟨x 0, x 1, by funext i; fin_cases i <;> rfl⟩
  show k0_pay4 (slab x3 k) (ix2 a j) = square fun e => x3 (ix3 _ _ e)
  pointwise [k0_pay4]
  simp only [slab_at]
  refine Finset.sum_congr rfl fun e _ => ?_
  have h : (ix3 (Fin.ofNat 4 k) j e : S4x1024x128.Idx) = ix3 (((normStore (F := Ideal) x3 k).1.emb (ix2 a j)) 0) (((normStore (F := Ideal) x3 k).1.emb (ix2 a j)) 1) e := by
    congr 1
    · exact Fin.ext (by show k % 4 = k % 4 + 1 * a.val; omega)
    · exact Fin.ext (by show j.val = 0 + 1 * j.val; omega)
  rw [h]
  rfl

/-- The table of norms that the first point fills. -/
theorem normTable_at (x3 : Vec Ideal S4x1024x128 .f32) (k : Fin 4) (j : Fin 1024) : normTable x3 (ix2 k j) = square fun e => x3 (ix3 k j e) := by
  refine View.canon_apply_of_pieces (normsAt x3) _ ?_ (ix2 k j) ?_
  · intro s hs
    simp only [List.mem_cons, List.not_mem_nil, or_false] at hs
    rcases hs with rfl | rfl | rfl | rfl <;> exact normStore_piece x3 _
  · refine ⟨normStore x3 k.val, ?_, ?_⟩
    · fin_cases k <;> simp
    · unfold normStore
      refine (Rect.mem_set_unit (inb := line_fits 1024 k.val)).mpr fun i => ?_
      fin_cases i
      · show k.val % 4 ≤ k.val ∧ k.val < k.val % 4 + 1; omega
      · show 0 ≤ j.val ∧ j.val < 0 + 1024; omega

end Tables

end Cert.Proof.Kernel

end
-- ==== Proof.Kernel.Host.lean ====
/-
  What the region finds in the arrays the host lines before it make: the codebooks doubled, the codebooks split in three,
  the two biases laid out as a row and as a column.
-/
module

public import proofs.«01_k».proof.Proof.Gen.KernelIdeal
public import proofs.«01_k».proof.Proof.Gen.KernelIdeal.Frame
public import proofs.«01_k».proof.Proof.Words
public import Idealize.ShloMosaic.Lib.StableHlo.ReadAt
public import Idealize.ShloMosaic.Lib.Pointwise

@[expose] public section

set_option maxRecDepth 16384

noncomputable section

namespace Cert.Proof.Kernel

open Idealize.ShloMosaic Idealize.ShloMosaic.TcCoe Cert.KernelIdeal Cert.KernelIdeal.Gen Cert.Proof

variable (m : (ℓ : Loc nD τ sig) → Buf (Elt Ideal) ℓ) (c : Dev nD)

/-- The input, channel by channel. -/
abbrev input : S8x256x2048.Idx → EReal := m (c.tc.loc main_arg0)
/-- The first projection. -/
abbrev inMatrix : S128x256.Idx → EReal := m (c.tc.loc main_arg1)
/-- The first projection's bias. -/
abbrev inBias : S128.Idx → EReal := m (c.tc.loc main_arg2)
/-- The codebooks. -/
abbrev codebooks : S4x1024x128.Idx → EReal := m (c.tc.loc main_arg3)
/-- The second projection. -/
abbrev outMatrix : S256x128.Idx → EReal := m (c.tc.loc main_arg4)
/-- The second projection's bias. -/
abbrev outBias : S256.Idx → EReal := m (c.tc.loc main_arg5)

/-- The doubled codebooks. -/
theorem entry_doubled (k : Fin 4) (j : Fin 1024) (e : Fin 128) :
    (V m c main_v29 : S4x1024x128.Idx → EReal) (ix3 k j e) = codebooks m c (ix3 k j e) * (2 : EReal) := by
  simp only [V, V0, hostOps0, hostOps0_1, hostOps0_2, hostOps0_3, hostOps0_4, List.flatten_cons, List.flatten_nil, List.append_nil, List.cons_append, List.nil_append]
  after_reads_at
  rw [word_two]

/-- The first bias, as a row. -/
theorem entry_bias (a : Fin 1) (e : Fin 128) :
    (V m c main_v30 : Vec Ideal S1x128 .f32) (ix2 a e) = inBias m c (ix1 e) := by
  simp only [V, V0, hostOps0, hostOps0_1, hostOps0_2, hostOps0_3, hostOps0_4, List.flatten_cons, List.flatten_nil, List.append_nil, List.cons_append, List.nil_append]
  after_reads_at

/-- The second bias, as a column. -/
theorem entry_column (h : Fin 256) (a : Fin 1) :
    (V m c main_v31 : Vec Ideal S256x1 .f32) (ix2 h a) = outBias m c (ix1 h) := by
  simp only [V, V0, hostOps0, hostOps0_1, hostOps0_2, hostOps0_3, hostOps0_4, List.flatten_cons, List.flatten_nil, List.append_nil, List.cons_append, List.nil_append]
  after_reads_at

/-- A finite number taken from itself leaves nothing. -/
theorem sub_finite (x : EReal) (h : ∃ r : ℝ, x = (r : EReal)) : x - x = 0 := by
  obtain ⟨r, rfl⟩ := h
  rw [← EReal.coe_sub, sub_self]; rfl

/-- The codebooks in three parts: the parts are the whole, and twice nothing, as soon as the codebooks are finite. -/
theorem entry_parts (hf : ∀ i, ∃ r : ℝ, codebooks m c i = (r : EReal)) (k : Fin 4) (j : Fin 1024) (e : Fin 384) :
    (V m c main_v27 : Vec Ideal S4x1024x384 .bf16) (ix3 k j e)
      = if h : e.val < 128 then codebooks m c (ix3 k j ⟨e.val, h⟩) else 0 := by
  simp only [V, V0, hostOps0, hostOps0_1, hostOps0_2, hostOps0_3, hostOps0_4, List.flatten_cons, List.flatten_nil, List.append_nil, List.cons_append, List.nil_append]
  after_reads_at
  after_reads_at
  simp only [lt_self_iff_false, if_false]
  split_ifs
  all_goals first
    | rfl
    | exact absurd rfl ‹¬((_ : Fin 3).val = (_ : Fin 3).val)›
    | exact sub_finite _ (hf _)
    | exact (congrArg₂ (fun a b : EReal => a - b) (sub_finite _ (hf _)) (sub_finite _ (hf _))).trans (sub_zero _)

end Cert.Proof.Kernel

end
-- ==== Proof.Kernel.Points.lean ====
/-
  What every point of the grid reads and leaves: the blocks it is given, and by induction along the grid the two blocks
  it writes, the running loss and the table of norms.
-/
module

public import proofs.«01_k».proof.Proof.Kernel.Block
public import proofs.«01_k».proof.Proof.Kernel.Read
public import proofs.«01_k».proof.Proof.Kernel.Host
public import Idealize.ShloMosaic.Lib.Pipeline.Value

@[expose] public section

set_option maxRecDepth 16384

noncomputable section

namespace Cert.Proof.Kernel

open Idealize.ShloMosaic Idealize.ShloMosaic.TcCoe Cert.KernelIdeal Cert.KernelIdeal.Gen Cert.Proof

variable (m : (ℓ : Loc nD τ sig) → Buf (Elt Ideal) ℓ) (c : Dev nD)

/-- The batch a point works on. -/
def batch (t : Fin cfg0.N) : Fin 8 := ⟨t.val, lt_of_lt_of_eq t.isLt N_0⟩

/-- The first window's block is the point's batch of the input. -/
theorem block_0 (t : Fin cfg0.N) (a : Fin 1) (h : Fin 256) (s : Fin 2048) :
    (iblk m c 0 t : Vec Ideal S1x256x2048 .f32) (ix3 a h s) = input m c (ix3 (batch t) h s) := by
  have hi : win0_0.index t 0 = t.val ∧ win0_0.index t 1 = 0 ∧ win0_0.index t 2 = 0 := by
    rcases fin_N0 t with rfl | rfl | rfl | rfl | rfl | rfl | rfl | rfl <;> decide
  unfold iblk
  rw [View.read_apply]
  show V m c main_arg0 _ = _
  rw [V_main_arg0]
  refine congrArg (input m c) ?_
  funext b
  apply Fin.ext
  match b with
  | ⟨0, _⟩ => show win0_0.index t 0 * 1 + 1 * a.val = t.val; rw [hi.1]; omega
  | ⟨1, _⟩ => show win0_0.index t 1 * 256 + 1 * h.val = h.val; rw [hi.2.1]; omega
  | ⟨2, _⟩ => show win0_0.index t 2 * 2048 + 1 * s.val = s.val; rw [hi.2.2]; omega

/-- The second window's block is the whole first projection. -/
theorem block_1 (t : Fin cfg0.N) : (iblk m c 1 t : Vec Ideal S128x256 .f32) = V m c main_arg1 := by
  have hz : (fun a => win0_1.index t a * main_arg1.ty.shape.size a) = fun _ => 0 := funext fun a => by fin_cases a <;> exact Nat.zero_mul _
  exact Memref.read_access_unit_zero (Elt Ideal) main_arg1 hz (fun a => by rw [congrFun hz a]; simp) _

/-- The third window's block is the whole first bias. -/
theorem block_2 (t : Fin cfg0.N) : (iblk m c 2 t : Vec Ideal S1x128 .f32) = V m c main_v30 := by
  have hz : (fun a => win0_2.index t a * main_v30.ty.shape.size a) = fun _ => 0 := funext fun a => by fin_cases a <;> exact Nat.zero_mul _
  exact Memref.read_access_unit_zero (Elt Ideal) main_v30 hz (fun a => by rw [congrFun hz a]; simp) _

/-- The fourth window's block is the codebooks. -/
theorem block_3 (t : Fin cfg0.N) : (iblk m c 3 t : Vec Ideal S4x1024x128 .f32) = V m c main_arg3 := by
  have hz : (fun a => win0_3.index t a * main_arg3.ty.shape.size a) = fun _ => 0 := funext fun a => by fin_cases a <;> exact Nat.zero_mul _
  exact Memref.read_access_unit_zero (Elt Ideal) main_arg3 hz (fun a => by rw [congrFun hz a]; simp) _

/-- The fifth window's block is the doubled codebooks. -/
theorem block_4 (t : Fin cfg0.N) : (iblk m c 4 t : Vec Ideal S4x1024x128 .f32) = V m c main_v29 := by
  have hz : (fun a => win0_4.index t a * main_v29.ty.shape.size a) = fun _ => 0 := funext fun a => by fin_cases a <;> exact Nat.zero_mul _
  exact Memref.read_access_unit_zero (Elt Ideal) main_v29 hz (fun a => by rw [congrFun hz a]; simp) _

/-- The sixth window's block is the codebooks in parts. -/
theorem block_5 (t : Fin cfg0.N) : (iblk m c 5 t : Vec Ideal S4x1024x384 .bf16) = V m c main_v27 := by
  have hz : (fun a => win0_5.index t a * main_v27.ty.shape.size a) = fun _ => 0 := funext fun a => by fin_cases a <;> exact Nat.zero_mul _
  exact Memref.read_access_unit_zero (Elt Ideal) main_v27 hz (fun a => by rw [congrFun hz a]; simp) _

/-- The seventh window's block is the whole second projection. -/
theorem block_6 (t : Fin cfg0.N) : (iblk m c 6 t : Vec Ideal S256x128 .f32) = V m c main_arg4 := by
  have hz : (fun a => win0_6.index t a * main_arg4.ty.shape.size a) = fun _ => 0 := funext fun a => by fin_cases a <;> exact Nat.zero_mul _
  exact Memref.read_access_unit_zero (Elt Ideal) main_arg4 hz (fun a => by rw [congrFun hz a]; simp) _

/-- The eighth window's block is the whole second bias. -/
theorem block_7 (t : Fin cfg0.N) : (iblk m c 7 t : Vec Ideal S256x1 .f32) = V m c main_v31 := by
  have hz : (fun a => win0_7.index t a * main_v31.ty.shape.size a) = fun _ => 0 := funext fun a => by fin_cases a <;> exact Nat.zero_mul _
  exact Memref.read_access_unit_zero (Elt Ideal) main_v31 hz (fun a => by rw [congrFun hz a]; simp) _

/-- The projected rows of the point's batch. -/
def points (t : Fin cfg0.N) : FVec Ideal S2048x128 .f32 := k0_pay8 (iblk m c 0 t) (V m c main_arg1) (V m c main_v30)

/-- The table of norms. -/
def table : Vec Ideal S4x1024 .f32 := normTable (V m c main_arg3)

/-- The first output's block at a point. -/
def outBlock (t : Fin cfg0.N) : Vec Ideal S1x256x2048 .f32 :=
  k0_pay1 (quantized (points m c t) (V m c main_v29) (V m c main_v27) (table m c)) (V m c main_arg4) (V m c main_v31)

/-- The block of chosen numbers at a point. -/
def numberBlock (t : Fin cfg0.N) : Vec Ideal S1x2048x4 .i32 := codesBlock (points m c t) (V m c main_v29) (V m c main_v27) (table m c)

/-- The point's loss. -/
def pointLoss (t : Fin cfg0.N) : Ideal .f32 := losses (points m c t) (V m c main_v29) (V m c main_v27) (table m c) 4

/-- The loss of the points so far. -/
def runningLoss : (n : ℕ) → n < cfg0.N → Vec Ideal S1x1 .f32
  | 0, h => k0_pay3 (pointLoss m c ⟨0, h⟩) (k0_pay2 (F := Ideal))
  | n + 1, h => k0_pay3 (pointLoss m c ⟨n + 1, h⟩) (runningLoss n (Nat.lt_of_succ_lt h))

/-- What the point leaves in its buffers. -/
theorem outs_eq : ∀ (n : ℕ) (h : n < cfg0.N), outsAt0 m c n h = (outBlock m c ⟨n, h⟩, numberBlock m c ⟨n, h⟩, runningLoss m c n h, table m c)
  | 0, h => by
    rw [outsAt0_A m c ⟨0, h⟩ rfl rfl]
    simp only [outs_A]
    rw [block_1, block_2, block_3, block_4, block_5, block_6, block_7]
    rfl
  | n + 1, h => by
    have hN : cfg0.N = 8 := N_0
    have hB : ¬(⟨n + 1, h⟩ : Fin cfg0.N).val % 8 = 0 := by dsimp only; omega
    rw [outsAt0_B m c ⟨n + 1, h⟩ hB hB]
    simp only [outs_B, scratch_B]
    rw [block_1, block_2, block_4, block_5, block_6, block_7]
    simp only [Nat.add_sub_cancel, outs_eq n]
    rfl

/-- The first output, after the run. -/
theorem final_8 (b : Fin 8) (h : Fin 256) (s : Fin 2048) :
    ((dats m 0 c).arrAt 8 cfg0.N : Vec Ideal S8x256x2048 .f32) (ix3 b h s) = outBlock m c ⟨b.val, lt_of_lt_of_eq b.isLt N_0.symm⟩ (ix3 0 h s) := by
  have key := (dats m 0 c).arrAt_emb_eq_flushed 8 (fun t t' _ _ hne => (cfg0.win 8).disjoint_blk fun e => hne
    ((by decide +kernel : ∀ t t' : Fin grid0.N, win0_8.index t = win0_8.index t' → t = t') t t' e))
    ⟨b.val, lt_of_lt_of_eq b.isLt N_0.symm⟩ (flush0_8 _) (ix3 (n0 := 1) (n1 := 256) (n2 := 2048) 0 h s)
  have hi : ∀ t : Fin grid0.N, win0_8.index t 0 = t.val ∧ win0_8.index t 1 = 0 ∧ win0_8.index t 2 = 0 := by decide +kernel
  have e : ((cfg0.win 8).blk ⟨b.val, lt_of_lt_of_eq b.isLt N_0.symm⟩).view.emb (ix3 (n0 := 1) (n1 := 256) (n2 := 2048) 0 h s) = (ix3 b h s : S8x256x2048.Idx) := by
    funext a
    apply Fin.ext
    match a with
    | ⟨0, _⟩ => show win0_8.index _ 0 * 1 + 1 * 0 = b.val; rw [(hi _).1]; simp
    | ⟨1, _⟩ => show win0_8.index _ 1 * 256 + 1 * h.val = h.val; rw [(hi _).2.1]; omega
    | ⟨2, _⟩ => show win0_8.index _ 2 * 2048 + 1 * s.val = s.val; rw [(hi _).2.2]; omega
  rw [e] at key
  refine key.trans ?_
  show (dats m 0 c).after 8 _ (ix3 0 h s) = _
  rw [after0_8, outs_eq]

/-- The chosen numbers, after the run. -/
theorem final_9 (b : Fin 8) (s : Fin 2048) (k : Fin 4) :
    ((dats m 0 c).arrAt 9 cfg0.N : Vec Ideal S8x2048x4 .i32) (ix3 b s k) = numberBlock m c ⟨b.val, lt_of_lt_of_eq b.isLt N_0.symm⟩ (ix3 0 s k) := by
  have key := (dats m 0 c).arrAt_emb_eq_flushed 9 (fun t t' _ _ hne => (cfg0.win 9).disjoint_blk fun e => hne
    ((by decide +kernel : ∀ t t' : Fin grid0.N, win0_9.index t = win0_9.index t' → t = t') t t' e))
    ⟨b.val, lt_of_lt_of_eq b.isLt N_0.symm⟩ (flush0_9 _) (ix3 (n0 := 1) (n1 := 2048) (n2 := 4) 0 s k)
  have hi : ∀ t : Fin grid0.N, win0_9.index t 0 = t.val ∧ win0_9.index t 1 = 0 ∧ win0_9.index t 2 = 0 := by decide +kernel
  have e : ((cfg0.win 9).blk ⟨b.val, lt_of_lt_of_eq b.isLt N_0.symm⟩).view.emb (ix3 (n0 := 1) (n1 := 2048) (n2 := 4) 0 s k) = (ix3 b s k : S8x2048x4.Idx) := by
    funext a
    apply Fin.ext
    match a with
    | ⟨0, _⟩ => show win0_9.index _ 0 * 1 + 1 * 0 = b.val; rw [(hi _).1]; simp
    | ⟨1, _⟩ => show win0_9.index _ 1 * 2048 + 1 * s.val = s.val; rw [(hi _).2.1]; omega
    | ⟨2, _⟩ => show win0_9.index _ 2 * 4 + 1 * k.val = k.val; rw [(hi _).2.2]; omega
  rw [e] at key
  refine key.trans ?_
  show (dats m 0 c).after 9 _ (ix3 0 s k) = _
  rw [after0_9, outs_eq]

/-- The one write-back of the loss, at the last point, writes the loss of all points. -/
theorem flushed_10 (t : Fin cfg0.N) (hf : (cfg0.win 10).flush t = true) :
    (dats m 0 c).flushed 10 t = ((cfg0.win 10).blk t).view.read (Elt Ideal) (runningLoss m c 7 (by rw [show cfg0.N = 8 from N_0]; decide)) := by
  have hN : cfg0.N = 8 := N_0
  have h7 : t.val = 7 := by have := (flush0_10 t).mp hf; have := t.isLt; omega
  obtain rfl : t = t0_7 := Fin.ext h7
  show (cfg0.win 10).cut (grid0.coords t0_7) ((dats m 0 c).after 10 t0_7) = _
  rw [after0_10, outs_eq]
  have hz : (fun a => win0_10.index t0_7 a * main_v32_2.ty.shape.size a) = fun _ => 0 := funext fun a => by fin_cases a <;> exact Nat.zero_mul _
  exact (Memref.read_access_unit_zero (Elt Ideal) main_v32_2 hz (fun a => by rw [congrFun hz a]; simp) _).symm

/-- The loss, after the run. -/
theorem final_10 : (dats m 0 c).arrAt 10 cfg0.N = runningLoss m c 7 (by rw [show cfg0.N = 8 from N_0]; decide) :=
  (dats m 0 c).arrAt_eq_of_cover 10 (runningLoss m c 7 (by rw [show cfg0.N = 8 from N_0]; decide)) (flushed_10 m c) fun i =>
    ⟨t0_7, (flush0_10 t0_7).mpr rfl, by
      show i ∈ ((View.whole main_v32_2).slice (win0_10.rect t0_7)).set
      rw [View.set_slice_whole, Rect.mem_set_unit]
      intro a
      have h0 : (i 0 : Nat) < 1 := (i 0).isLt
      have h1 : (i 1 : Nat) < 1 := (i 1).isLt
      match a with
      | ⟨0, _⟩ => show 0 * 1 ≤ (i 0 : Nat) ∧ (i 0 : Nat) < 0 * 1 + 1; omega
      | ⟨1, _⟩ => show 0 * 1 ≤ (i 1 : Nat) ∧ (i 1 : Nat) < 0 * 1 + 1; omega⟩

end Cert.Proof.Kernel

end
-- ==== Proof.Kernel.Results.lean ====
/-
  The kernel's six results after the run: the output, the numbers of the four codebooks' words, and the loss.
-/
module

public import proofs.«01_k».proof.Proof.Kernel.Points

@[expose] public section

set_option maxRecDepth 16384

noncomputable section

namespace Cert.Proof.Kernel

open Idealize.ShloMosaic Idealize.ShloMosaic.TcCoe Cert.KernelIdeal Cert.KernelIdeal.Gen Cert.Proof

variable (m : (ℓ : Loc nD τ sig) → Buf (Elt Ideal) ℓ) (c : Dev nD)

/-- The rows to be coded, from the arguments. -/
def rows : Rows := coded (input m c) (inMatrix m c) (inBias m c)

/-- The codebooks, from the arguments. -/
def stack : ℕ → Book := books (codebooks m c)

/-- A point of the grid has the rows of its batch. -/
theorem points_at (t : Fin cfg0.N) (s : Fin 2048) : row (points m c t) s = rows m c (batch t) s := by
  funext e
  unfold points
  rw [projected_at, entry_bias, show V m c main_arg1 = m (c.tc.loc main_arg1) from V_main_arg1 m c]
  simp only [block_0]
  rfl

/-- The tables a point is given are those of the codebooks, where these are finite. -/
theorem tables (hf : ∀ i, ∃ r : ℝ, codebooks m c i = (r : EReal)) : Tables (codebooks m c) (V m c main_v29) (V m c main_v27) (table m c) where
  doubled := entry_doubled m c
  whole k j e := by rw [entry_parts m c hf, dif_pos e.isLt]
  middle k j e := by rw [entry_parts m c hf, dif_neg (by simp)]
  last k j e := by rw [entry_parts m c hf, dif_neg (by simp; omega)]
  normed k j := by
    unfold table
    rw [normTable_at, show V m c main_arg3 = m (c.tc.loc main_arg3) from V_main_arg3 m c]

variable (hf : ∀ i, ∃ r : ℝ, codebooks m c i = (r : EReal))
include hf

/-- The output array at the end. -/
theorem out_final (b : Fin 8) (h : Fin 256) (t : Fin 2048) :
    ((dats m 0 c).arrAt 8 cfg0.N : Vec Ideal S8x256x2048 .f32) (ix3 b h t) = output (rows m c) (stack m c) (outMatrix m c) (outBias m c) b h t := by
  rw [final_8]
  unfold outBlock
  rw [out_at (tables m c hf), entry_column, points_at, show V m c main_arg4 = m (c.tc.loc main_arg4) from V_main_arg4 m c]
  rfl

/-- The array of numbers at the end. -/
theorem numbers_final (b : Fin 8) (t : Fin 2048) (k : Fin 4) :
    ((dats m 0 c).arrAt 9 cfg0.N : Vec Ideal S8x2048x4 .i32) (ix3 b t k) = BitVec.ofNat 32 (code (rows m c b t) (stack m c) k.val).val := by
  rw [final_9]
  unfold numberBlock
  rw [codes_at (tables m c hf), points_at]
  rfl

/-- A point's share of the loss. -/
def share (b : Fin 8) : EReal := ∑ k ∈ Finset.range 4, ∑ t, square (rest (rows m c b t) (stack m c) (k + 1))

theorem pointLoss_eq (t : Fin cfg0.N) : pointLoss m c t = share m c (batch t) := by
  unfold pointLoss
  rw [losses_at (tables m c hf)]
  simp only [points_at]
  rfl

/-- The running loss: the shares of the points so far. -/
theorem runningLoss_eq (n : ℕ) (h : n < cfg0.N) (a b : Fin 1) :
    runningLoss m c n h (ix2 a b) = ∑ i : Fin (n + 1), share m c (batch ⟨i.val, lt_of_lt_of_le i.isLt h⟩) := by
  induction n with
  | zero =>
    have e : runningLoss m c 0 h = k0_pay3 (pointLoss m c ⟨0, h⟩) (k0_pay2 (F := Ideal)) := rfl
    rw [e, pointLoss_eq m c hf, Fin.sum_univ_one]
    pointwise [k0_pay3, k0_pay2]
  | succ n ih =>
    have e : runningLoss m c (n + 1) h = k0_pay3 (pointLoss m c ⟨n + 1, h⟩) (runningLoss m c n (Nat.lt_of_succ_lt h)) := rfl
    rw [e, pointLoss_eq m c hf, Fin.sum_univ_castSucc]
    pointwise [k0_pay3]
    rw [ih]
    rfl

/-- The whole loss, before it is divided. -/
theorem loss_final (a b : Fin 1) : ((dats m 0 c).arrAt 10 cfg0.N : Vec Ideal S1x1 .f32) (ix2 a b) = ∑ i : Fin 8, share m c i := by
  rw [final_10, runningLoss_eq m c hf]
  rfl

omit hf

variable (U : Valuation τ sig (Elt Ideal))

/-- The host lines after the region: the four columns of the numbers. -/
theorem tail_numbers (n : S8x2048x4.Idx → BitVec 32) (hn : U (Proc.devRef .tc main_v32_1) = n) (b : Fin 8) (t : Fin 2048) :
    (StableHlo.after hostOps1 U (Proc.devRef .tc main_v36) : S8x2048.Idx → BitVec 32) (ix2 b t) = n (ix3 b t 0)
    ∧ (StableHlo.after hostOps1 U (Proc.devRef .tc main_v38) : S8x2048.Idx → BitVec 32) (ix2 b t) = n (ix3 b t 1)
    ∧ (StableHlo.after hostOps1 U (Proc.devRef .tc main_v40) : S8x2048.Idx → BitVec 32) (ix2 b t) = n (ix3 b t 2)
    ∧ (StableHlo.after hostOps1 U (Proc.devRef .tc main_v42) : S8x2048.Idx → BitVec 32) (ix2 b t) = n (ix3 b t 3) := by
  subst hn
  refine ⟨?_, ?_, ?_, ?_⟩ <;> after_reads_at

/-- And the loss, divided by the number of values. -/
theorem tail_loss (l : S1x1.Idx → EReal) (hl : U (Proc.devRef .tc main_v32_2) = l) (i : S_.Idx) :
    (StableHlo.after hostOps1 U (Proc.devRef .tc main_v34) : S_.Idx → EReal) i = Ideal.div (l (ix2 0 0)) (Ideal.ofBits .f32 0x4A000000#32) := by
  subst hl
  after_reads_at

/-- The contents the host lines after the region find. -/
abbrev reached : Valuation τ sig (Elt Ideal) := Pipeline.withArrays spec0 c (V0 m c) fun w => (dats m 0 c).arrAt w cfg0.N

theorem reached_9 : reached m c (Proc.devRef .tc main_v32_1) = (dats m 0 c).arrAt 9 cfg0.N :=
  Pipeline.withArrays_arr spec0 (by decide) c (V0 m c) _ 9

theorem reached_10 : reached m c (Proc.devRef .tc main_v32_2) = (dats m 0 c).arrAt 10 cfg0.N :=
  Pipeline.withArrays_arr spec0 (by decide) c (V0 m c) _ 10

/-- What the host lines after the region leave, read off the region's own arrays. -/
theorem tail_eq (b : Ref sig .tc) : Pipeline.afterTail₀ cfgs (dats m) 0 (V0 m) [hostOps1] c b = StableHlo.after hostOps1 (reached m c) (Proc.devRef .tc b) := by
  unfold Pipeline.afterTail₀
  rw [List.flatten_cons, List.flatten_nil, List.append_nil]

/-- The kernel runs and ends with the output, the numbers and the loss in its results, its arguments as they were. -/
theorem run (ρ : Dev nD → PrngReg) (hf : ∀ c i, ∃ r : ℝ, codebooks m c i = (r : EReal)) :
    θ_run (defs (F := Ideal)) (onTc (τ := τ) (main (F := Ideal))) ⟨m, fun _ => 0, ρ⟩ (fun r => ∀ c : Dev nD,
      r.2.mem ((c.tc : Thread nD τ).loc main_v32_0) = outputs (rows m c) (stack m c) (outMatrix m c) (outBias m c)
      ∧ r.2.mem ((c.tc : Thread nD τ).loc main_v36) = numbers (rows m c) (stack m c) 0
      ∧ r.2.mem ((c.tc : Thread nD τ).loc main_v38) = numbers (rows m c) (stack m c) 1
      ∧ r.2.mem ((c.tc : Thread nD τ).loc main_v40) = numbers (rows m c) (stack m c) 2
      ∧ r.2.mem ((c.tc : Thread nD τ).loc main_v42) = numbers (rows m c) (stack m c) 3
      ∧ r.2.mem ((c.tc : Thread nD τ).loc main_v34) = (fun _ => loss (rows m c) (stack m c) 4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run (defs (F := Ideal)) _ _).mono (fun r h c => ?_) (run_main m ρ)
  have tail : ∀ b (_ : b ∈ Pipeline.restRefs sig spec0), r.2.mem ((c.tc : Thread nD τ).loc b) = StableHlo.after hostOps1 (reached m c) (Proc.devRef .tc b) :=
    fun b hb => ((h c).2 b hb).trans (tail_eq m c b)
  have num := fun b t => tail_numbers (reached m c) _ (reached_9 m c) b t
  refine ⟨((h c).1 8).trans (eq_outputs (out_final m c (hf c))),
    (tail main_v36 (Pipeline.mem_restRefs_of main_v36 (by decide) (by decide))).trans (eq_numbers fun b t => (num b t).1.trans (numbers_final m c (hf c) b t 0)),
    (tail main_v38 (Pipeline.mem_restRefs_of main_v38 (by decide) (by decide))).trans (eq_numbers fun b t => (num b t).2.1.trans (numbers_final m c (hf c) b t 1)),
    (tail main_v40 (Pipeline.mem_restRefs_of main_v40 (by decide) (by decide))).trans (eq_numbers fun b t => (num b t).2.2.1.trans (numbers_final m c (hf c) b t 2)),
    (tail main_v42 (Pipeline.mem_restRefs_of main_v42 (by decide) (by decide))).trans (eq_numbers fun b t => (num b t).2.2.2.trans (numbers_final m c (hf c) b t 3)),
    (tail main_v34 (Pipeline.mem_restRefs_of main_v34 (by decide) (by decide))).trans (funext fun i => ?_),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c),
    ((h c).1 3).trans (((dats m 0 c).arrAt_in 3 rfl _).trans ((A_eq m c 3).trans (V_main_arg3 m c))),
    ((h c).1 6).trans (((dats m 0 c).arrAt_in 6 rfl _).trans ((A_eq m c 6).trans (V_main_arg4 m c))),
    ((h c).2 main_arg5 (Pipeline.mem_restRefs_of main_arg5 (by decide) (by decide))).trans (W_main_arg5 m (dats m) c)⟩
  rw [tail_loss (reached m c) _ (reached_10 m c), loss_final m c (hf c)]
  exact loss_by_batch (rows m c) (stack m c) 4

end Cert.Proof.Kernel

end
-- ==== Proof.Reference.Run.lean ====
/-
  The run of the reference: a straight line of host operations, so it ends with every buffer as the operations, applied
  one after another to what the memory held at the start, leave it. The arguments are written by none of them.
-/
module

public import proofs.«01_k».proof.ReferenceIdeal
public import proofs.«01_k».proof.Proof.Gen.ReferenceIdeal
public import Idealize.ShloMosaic.PureOps.Ideal
public import Idealize.ShloMosaic.Adequacy
public import Idealize.ShloMosaic.Init
public import Idealize.ShloMosaic.Lib.Claim
public import Idealize.ShloMosaic.Lib.StableHlo.RunHlo
public import Idealize.ShloMosaic.Lib.StableHlo.RunRead

@[expose] public section

set_option maxRecDepth 16384

noncomputable section

namespace Cert.Proof.Reference

open Idealize.ShloMosaic Idealize.ShloMosaic.StableHlo Idealize.SL.Sem Cert.ReferenceIdeal

/-- The reference's host operations, in order, with the fact that its `main` runs exactly them. -/
def line : {ops : List (HloOp τ sig (Elt Ideal)) // ∀ d : Dev nD, IsSeq (main (F := Ideal) d) ops} := by
  apply Subtype.mk
  hlo_seq

theorem no_scoped_buffer : (Finset.univ.filter fun b : Ref sig .tc => b.isScoped) = ∅ := by decide

theorem no_scoped_semaphore : (Finset.univ.filter fun sm : SemLoc sig => sm.isScoped .tc) = ∅ := by decide

set_option maxHeartbeats 4000000 in
/-- Every operation of the line names buffers of the TensorCore only. -/
theorem line_bufs : line.1.Forall fun op => op.bufs ⊆ tcRefs τ sig := by
  simp [line]

set_option maxHeartbeats 4000000 in
/-- Every operation of the line determines what it writes. -/
theorem line_fresh : ∀ op ∈ line.1, op.fresh = ∅ := by
  intro op h
  (repeat (cases h with | head => rfl | tail _ h => ?_)); exact nomatch h

/-- The reference runs, and ends with every buffer as its operations, one after another, leave it. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc),
        r.2.mem ((d.tc : Thread nD τ).loc b) = after line.1 (launchContents m d) (Proc.devRef .tc b) :=
  run_hlo _ _ line.2 no_scoped_buffer no_scoped_semaphore line_bufs line_fresh m ρ

/-- No operation of the line writes an argument. -/
theorem line_args (V : Valuation τ sig (Elt Ideal)) :
    after line.1 V (Proc.devRef .tc main_arg0) = V (Proc.devRef .tc main_arg0)
    ∧ after line.1 V (Proc.devRef .tc main_arg1) = V (Proc.devRef .tc main_arg1)
    ∧ after line.1 V (Proc.devRef .tc main_arg2) = V (Proc.devRef .tc main_arg2)
    ∧ after line.1 V (Proc.devRef .tc main_arg3) = V (Proc.devRef .tc main_arg3)
    ∧ after line.1 V (Proc.devRef .tc main_arg4) = V (Proc.devRef .tc main_arg4)
    ∧ after line.1 V (Proc.devRef .tc main_arg5) = V (Proc.devRef .tc main_arg5) := by
  simp only [line]
  refine ⟨?_, ?_, ?_, ?_, ?_, ?_⟩ <;> after_reads_simp

/-- The reference runs to the end, leaves its arguments as they were and every semaphore at zero (it has none). -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine θ_run_mono (run m ρ) fun r h => ⟨fun c => ?_, sem_eq_zero_of_no_sems (by decide) r.2⟩
  obtain ⟨h0, h1, h2, h3, h4, h5⟩ := line_args (launchContents m c)
  exact ⟨(h c _).trans h0, (h c _).trans h1, (h c _).trans h2, (h c _).trans h3, (h c _).trans h4, (h c _).trans h5⟩

end Cert.Proof.Reference

end
-- ==== Proof.Reference.Argmin.lean ====
module

public import proofs.«01_k».proof.Proof.Reference.Run
public import proofs.«01_k».proof.Proof.Words
public import Idealize.ShloMosaic.Lib.Pointwise

/-! The reference's search for the nearest word: the position it returns for a row of distances is the first one at which the row is
least. -/

@[expose] public section

set_option maxRecDepth 16384

noncomputable section

namespace Cert.Proof.Reference

open Idealize.ShloMosaic Cert.ReferenceIdeal Cert.Proof

/-- A value with its position comes no later than another: its value is less, or the values are equal and its position is not greater. -/
def NoLater (a b : EReal × BitVec 32) : Prop := a.1 < b.1 ∨ (a.1 = b.1 ∧ a.2.toInt ≤ b.2.toInt)

theorem NoLater.refl (a : EReal × BitVec 32) : NoLater a a := Or.inr ⟨rfl, le_rfl⟩

theorem NoLater.trans {a b c : EReal × BitVec 32} (h : NoLater a b) (h' : NoLater b c) : NoLater a c := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

/-- The reducer keeps the earlier of its two arguments. -/
theorem reducer_keeps (a b : EReal × BitVec 32) :
    (reducer_argmin_f32_i32 (F := Ideal) a b = a ∨ reducer_argmin_f32_i32 (F := Ideal) a b = b)
      ∧ NoLater (reducer_argmin_f32_i32 (F := Ideal) a b) a ∧ NoLater (reducer_argmin_f32_i32 (F := Ideal) a b) b := by
  have key : reducer_argmin_f32_i32 (F := Ideal) a b
      = (if a.1 < b.1 then a.1 else b.1, if a.1 < b.1 ∨ (a.1 = b.1 ∧ a.2.toInt < b.2.toInt) then a.2 else b.2) := by
    unfold reducer_argmin_f32_i32
    simp only [Ideal.cmpf_def, Ideal.cmp, IntOp.cmpi, ne_eq, not_true_eq_false, decide_false]
    by_cases h1 : a.1 < b.1
    · have h2 : ¬ a.1 = b.1 := h1.ne
      simp [h1, h2, Scalar.select, IntOp.ori, IntOp.andi]
    · by_cases h2 : a.1 = b.1 <;> by_cases h3 : a.2.toInt < b.2.toInt <;>
        simp [h1, h2, h3, Scalar.select, IntOp.ori, IntOp.andi, BitVec.slt]
  rw [key]
  rcases lt_trichotomy a.1 b.1 with h | h | h
  · simp only [h, true_or, if_true]
    exact ⟨trivial, NoLater.refl _, Or.inl h⟩
  · simp only [h, lt_irrefl, false_or, true_and, if_false]
    split_ifs with h3
    · exact ⟨Or.inl (Prod.ext h.symm rfl), Or.inr ⟨h.symm, le_rfl⟩, Or.inr ⟨rfl, h3.le⟩⟩
    · exact ⟨Or.inr rfl, Or.inr ⟨h.symm, not_lt.mp h3⟩, Or.inr ⟨rfl, le_rfl⟩⟩
  · have h' : ¬ a.1 < b.1 := not_lt.mpr h.le
    have h'' : ¬ a.1 = b.1 := h.ne'
    simp only [h', h'', false_or, false_and, if_false]
    exact ⟨Or.inr trivial, Or.inl h, NoLater.refl _⟩

/-- Folded over a list the reducer gives one of the list or the initial pair, and none of these is earlier. -/
theorem fold_keeps (l : List (EReal × BitVec 32)) (a : EReal × BitVec 32) :
    l.foldl (reducer_argmin_f32_i32 (F := Ideal)) a ∈ a :: l
      ∧ ∀ q ∈ a :: l, NoLater (l.foldl (reducer_argmin_f32_i32 (F := Ideal)) a) q := by
  induction l generalizing a with
  | nil => simp [NoLater.refl]
  | cons b l ih =>
    obtain ⟨hm, hl⟩ := ih (reducer_argmin_f32_i32 (F := Ideal) a b)
    obtain ⟨hc, ha, hb⟩ := reducer_keeps a b
    rw [List.foldl_cons]
    have h0 := hl _ List.mem_cons_self
    refine ⟨?_, fun q hq => ?_⟩
    · rcases List.mem_cons.mp hm with h | h
      · rw [h]; rcases hc with h | h <;> rw [h] <;> simp
      · simp [h]
    · rcases List.mem_cons.mp hq with rfl | hq
      · exact h0.trans ha
      · rcases List.mem_cons.mp hq with rfl | hq
        · exact h0.trans hb
        · exact hl q (List.mem_cons_of_mem _ hq)

/-- A position below 1024 as a signed word. -/
theorem toInt_small (j : Fin 1024) : (BitVec.ofNat 32 j.val).toInt = (j.val : ℤ) := by
  have := j.isLt
  rw [BitVec.toInt_eq_toNat_cond, BitVec.toNat_ofNat, Nat.mod_eq_of_lt (by omega), if_pos (by omega)]

/-- The entries met for row `r`: each value of the row with its own position. -/
theorem mem_fiber (x : Vec Ideal S16384x1024 .f32) (r : Fin 16384) (p : EReal × BitVec 32) :
    p ∈ Host.argReduceFiber x (iotaInDim S16384x1024 32 1) Facts₀.reducesTo_S16384x1024_S16384_d1 (ix1 r)
      ↔ ∃ j : Fin 1024, p = (x (ix2 r j), BitVec.ofNat 32 j.val) := by
  unfold Host.argReduceFiber
  simp only [List.mem_map, List.mem_filter, List.mem_finRange, true_and, decide_eq_true_eq]
  constructor
  · rintro ⟨n, hn, rfl⟩
    obtain ⟨i, hi⟩ : ∃ i, i = S16384x1024.rowMajor.symm n := ⟨_, rfl⟩
    rw [← hi] at hn ⊢
    refine ⟨i 1, ?_⟩
    have h0 : (i 0 : Fin 16384) = r := by
      have := congrFun hn 0
      exact this
    have h1 : i = ix2 r (i 1) := by
      rw [← h0]; exact eq_ix2 i
    exact Prod.ext (congrArg x h1) rfl
  · rintro ⟨j, rfl⟩
    refine ⟨S16384x1024.rowMajor (ix2 r j), ?_, ?_⟩
    · rw [Equiv.symm_apply_apply]
      funext a
      match a with
      | ⟨0, _⟩ => rfl
    · rw [Equiv.symm_apply_apply]; rfl

/-- The position found for row `r`. -/
theorem argmin_at (x : Vec Ideal S16384x1024 .f32) (r : Fin 16384) :
    (Host.argReduce (reducer_argmin_f32_i32 (F := Ideal)) x (iotaInDim S16384x1024 32 1) (constant S_ .f32 0x7F800000#32) (constantI S_ 32 0#32)
      Facts₀.reducesTo_S16384x1024_S16384_d1 Facts₀.h_S_ (ix1 r)).2 = BitVec.ofNat 32 (pick fun j => x (ix2 r j)).val := by
  rw [Ideal.argReduce_eq_reduce2, Host.reduce2_eq_foldl_fiber]
  obtain ⟨hm, hl⟩ := fold_keeps (Host.argReduceFiber x (iotaInDim S16384x1024 32 1) Facts₀.reducesTo_S16384x1024_S16384_d1 (ix1 r)) ((⊤ : EReal), 0#32)
  have e : ((constant S_ .f32 0x7F800000#32 : FVec Ideal S_ .f32) (Shape.Idx.first Facts₀.h_S_), (constantI S_ 32 0#32) (Shape.Idx.first Facts₀.h_S_)) = ((⊤ : EReal), 0#32) :=
    by refine Prod.ext ?_ rfl; exact word_top
  rw [e]
  generalize List.foldl (reducer_argmin_f32_i32 (F := Ideal)) _ _ = p at hm hl ⊢
  have hx : ∀ j : Fin 1024, NoLater p (x (ix2 r j), BitVec.ofNat 32 j.val) := fun j =>
    hl _ (List.mem_cons_of_mem _ ((mem_fiber x r _).mpr ⟨j, rfl⟩))
  have hj : ∃ j : Fin 1024, p = (x (ix2 r j), BitVec.ofNat 32 j.val) := by
    rcases List.mem_cons.mp hm with h | h
    · refine ⟨0, ?_⟩
      rw [h] at hx ⊢
      rcases hx 0 with h | ⟨h, -⟩
      · exact absurd h not_top_lt
      · exact Prod.ext h rfl
    · exact (mem_fiber x r p).mp h
  obtain ⟨j, rfl⟩ := hj
  rw [← eq_pick (fun j => x (ix2 r j)) j fun i => ?_]
  rcases hx i with h | ⟨h, h'⟩
  · exact Or.inl h
  · refine Or.inr ⟨h, ?_⟩
    simp only [toInt_small] at h'
    exact Fin.le_def.mpr (by exact_mod_cast h')

end Cert.Proof.Reference

end
-- ==== Proof.Reference.Take.lean ====
module

public import proofs.«01_k».proof.Proof.Reference.Argmin

/-! The reference's look-up of a word: at a position below 1024 the row taken is the codebook's row there. -/

@[expose] public section

set_option maxRecDepth 16384

noncomputable section

namespace Cert.Proof.Reference

open Idealize.ShloMosaic Cert.ReferenceIdeal Cert.Proof

/-- The gather reads, in column `e` of row `r`, the table's row whose number stands at row `r` of the positions, brought into range. -/
theorem gather_at (x : Vec Ideal S1024x128 .f32) (n : IVec S16384x1 32) (r : Fin 16384) (e : Fin 128) :
    Host.gather gather_S1024x128_S16384x1_S16384x128_1_0_n_n_0_1_1128 x n (ix2 r e) = x (ix2 ⟨min (n (ix2 r 0)).toInt.toNat 1023, by omega⟩ e) := by
  unfold Host.gather
  congr 1
  funext a
  refine Fin.ext ?_
  show gather_S1024x128_S16384x1_S16384x128_1_0_n_n_0_1_1128.start (ix2 r e) n a + gather_S1024x128_S16384x1_S16384x128_1_0_n_n_0_1_1128.batchCoord (ix2 r e) a
      + gather_S1024x128_S16384x1_S16384x128_1_0_n_n_0_1_1128.offCoord (ix2 r e) a = _
  have h01 : a = 0 ∨ a = 1 := by
    match a with
    | ⟨0, _⟩ => exact Or.inl rfl
    | ⟨1, _⟩ => exact Or.inr rfl
  rw [GatherDims.batchCoord_eq_zero _ _ _ List.not_mem_nil, Nat.add_zero]
  rcases h01 with rfl | rfl
  · rw [GatherDims.offCoord_eq_zero _ _ _ fun h => ((GatherDims.mem_sKept _ _).mp h).1 (List.mem_singleton.mpr rfl), Nat.add_zero]
    unfold GatherDims.start
    rw [dif_pos (show (0 : Fin 2) ∈ gather_S1024x128_S16384x1_S16384x128_1_0_n_n_0_1_1128.startIndexMap from List.mem_singleton.mpr rfl)]
    show min (n _).toInt.toNat 1023 = _
    congr 3
    refine congrArg n (funext fun b => Fin.ext ?_)
    match b with
    | ⟨0, _⟩ => rfl
    | ⟨1, _⟩ => rfl
  · unfold GatherDims.start GatherDims.offCoord
    rw [dif_neg (by decide), dif_pos (by decide), Nat.zero_add]
    rfl

/-- A position below 1024 is not negative, and so not shifted. -/
theorem kept (j : Fin 1024) : Scalar.select (IntOp.cmpi .slt (BitVec.ofNat 32 j.val) 0#32) (IntOp.addi (BitVec.ofNat 32 j.val) 1024#32) (BitVec.ofNat 32 j.val) = BitVec.ofNat 32 j.val := by
  have h : ¬ ((j.val : ℤ) < 0) := by omega
  simp [Scalar.select, IntOp.cmpi, BitVec.slt, toInt_small, decide_eq_false h]

/-- A position below 1024 is in range. -/
theorem in_range (j : Fin 1024) : IntOp.andi (IntOp.cmpi .sge (BitVec.ofNat 32 j.val) 0#32) (IntOp.cmpi .sle (BitVec.ofNat 32 j.val) 1023#32) = 1#1 := by
  have h : (j.val : ℤ) ≤ 1023 := by have := j.isLt; omega
  simp [IntOp.cmpi, IntOp.andi, BitVec.sle, toInt_small, h]

/-- Row `r` of the look-up, where the position of row `r` is `j`: the test for range passes, and the row is the table's row `j`. -/
theorem take_at (x : Vec Ideal S1024x128 .f32) (n : IVec S16384 32) (r : Fin 16384) (e : Fin 128) (j : Fin 1024) (h : n (ix1 r) = BitVec.ofNat 32 j.val) :
    Scalar.select
      (Finset.fold IntOp.andi (1#1)
        (fun _ : Fin 1 =>
          IntOp.andi
            (IntOp.cmpi .sge (Scalar.select (IntOp.cmpi .slt (n (ix1 r)) 0#32) (IntOp.addi (n (ix1 r)) 1024#32) (n (ix1 r))) 0#32)
            (IntOp.cmpi .sle (Scalar.select (IntOp.cmpi .slt (n (ix1 r)) 0#32) (IntOp.addi (n (ix1 r)) 1024#32) (n (ix1 r))) 1023#32))
        Finset.univ)
      (Host.gather gather_S1024x128_S16384x1_S16384x128_1_0_n_n_0_1_1128 x
        (broadcastInDim S16384x1 ![0] Facts₀.bcast_S16384_S16384x1_0
          (select (cmpi .slt n (broadcastInDim S16384 ![] Facts₀.bcast_S_S16384 (constantI S_ 32 0#32)))
            (addi n (broadcastInDim S16384 ![] Facts₀.bcast_S_S16384 (constantI S_ 32 1024#32))) n))
        (ix2 r e))
      (Ideal.ofBits .f32 2143289344#32) = x (ix2 j e) := by
  rw [h, kept, in_range, Finset.univ_unique, Finset.fold_singleton, gather_at]
  have hi : (broadcastInDim S16384x1 ![0] Facts₀.bcast_S16384_S16384x1_0
      (select (cmpi .slt n (broadcastInDim S16384 ![] Facts₀.bcast_S_S16384 (constantI S_ 32 0#32)))
        (addi n (broadcastInDim S16384 ![] Facts₀.bcast_S_S16384 (constantI S_ 32 1024#32))) n)) (ix2 r 0) = BitVec.ofNat 32 j.val := by
    pointwise
    rw [h, kept]
  have hv : min (BitVec.ofNat 32 j.val).toInt.toNat 1023 = j.val := by
    rw [toInt_small]; have := j.isLt; omega
  simp only [hi, hv]
  rfl

end Cert.Proof.Reference

end
-- ==== Proof.Reference.Stage.lean ====
module

public import proofs.«01_k».proof.Proof.Reference.Take

/-! What one stage of the reference does to the rows it is given: it names the nearest word of its codebook for every row, takes that word
off, adds it to what has been gathered, and adds the mean of the squares to the loss. -/

@[expose] public section

set_option maxRecDepth 16384

noncomputable section

namespace Cert.Proof.Reference

open Idealize.ShloMosaic Idealize.ShloMosaic.StableHlo Cert.ReferenceIdeal Cert.Proof

/-- `n` operations of the line from the `a`-th on. -/
def part (a n : ℕ) : List (HloOp τ sig (Elt Ideal)) := (line.1.drop a).take n

/-- Operations run in two goes. -/
theorem after_append (l k : List (HloOp τ sig (Elt Ideal))) (W : Valuation τ sig (Elt Ideal)) : after (l ++ k) W = after k (after l W) := by
  induction l generalizing W with
  | nil => rfl
  | cons o l ih => exact ih _

/-- A part of the line run in two goes. -/
theorem after_part (a m n : ℕ) (W : Valuation τ sig (Elt Ideal)) : after (part a (m + n)) W = after (part (a + m) n) (after (part a m) W) := by
  rw [← after_append]
  unfold part
  rw [List.take_add, List.drop_drop]

abbrev Cells := S8x128x2048.Idx → EReal

/-- The row of 128 values at a batch and a time. -/
def cell (x : Cells) (b : Fin 8) (t : Fin 2048) : Row := fun e => x (ix3 b e t)

/-- The word nearest to that row. -/
def nearest (x : Cells) (C : Book) (b : Fin 8) (t : Fin 2048) : Fin 1024 := pick (distance (cell x b t) C)

/-- The batch of a flat row. -/
def batch (r : Fin 16384) : Fin 8 := ⟨r.val / 2048, by omega⟩

/-- The time of a flat row. -/
def time (r : Fin 16384) : Fin 2048 := ⟨r.val % 2048, by omega⟩

/-- The flat row of a batch and a time. -/
def flat (b : Fin 8) (t : Fin 2048) : Fin 16384 := ⟨b.val * 2048 + t.val, by omega⟩

theorem batch_flat (b : Fin 8) (t : Fin 2048) : batch (flat b t) = b := Fin.ext (by simp only [batch, flat]; omega)

theorem time_flat (b : Fin 8) (t : Fin 2048) : time (flat b t) = t := Fin.ext (by simp only [time, flat]; omega)

/-- The sum over all rows of the squares of what is left when each row's word is taken off. -/
def costs (C : Book) (x : Cells) : EReal :=
  ∑ b, ∑ e, ∑ t, (x (ix3 b e t) - C (nearest x C b t) e) * (x (ix3 b e t) - C (nearest x C b t) e)

/-- One stage with codebook `C`: from rows `x`, gathered words `q` and loss `l` to rows `x'`, gathered words `q'` and loss `l'`, and the
words' numbers `n'`. -/
structure Stage (C : Book) (x q : Cells) (l : S_.Idx → EReal) (x' q' : Cells) (n' : S8x2048.Idx → BitVec 32) (l' : S_.Idx → EReal) : Prop where
  left : ∀ b e t, x' (ix3 b e t) = x (ix3 b e t) - (x (ix3 b e t) + (C (nearest x C b t) e - x (ix3 b e t)))
  gathers : ∀ b e t, q' (ix3 b e t) = q (ix3 b e t) + (x (ix3 b e t) + (C (nearest x C b t) e - x (ix3 b e t)))
  number : ∀ b t, n' (ix2 b t) = BitVec.ofNat 32 (nearest x C b t).val
  loss : ∀ i, l' i = l i + Ideal.div (costs C x) (Ideal.ofBits .f32 0x4A000000#32)

/-- A stage from what is found for the flat rows: their words' numbers `n` and the words `y`. -/
theorem Stage.of_flat {C : Book} {x q : Cells} {l : S_.Idx → EReal} {x' q' : Cells} {n' : S8x2048.Idx → BitVec 32} {l' : S_.Idx → EReal}
    (n : S16384.Idx → BitVec 32) (y : S16384x128.Idx → EReal)
    (hn : ∀ r, n (ix1 r) = BitVec.ofNat 32 (nearest x C (batch r) (time r)).val)
    (hy : ∀ r e, y (ix2 r e) = C (nearest x C (batch r) (time r)) e)
    (h1 : ∀ b e t, x' (ix3 b e t) = x (ix3 b e t) - (x (ix3 b e t) + (y (ix2 (flat b t) e) - x (ix3 b e t))))
    (h2 : ∀ b e t, q' (ix3 b e t) = q (ix3 b e t) + (x (ix3 b e t) + (y (ix2 (flat b t) e) - x (ix3 b e t))))
    (h3 : ∀ b t, n' (ix2 b t) = n (ix1 (flat b t)))
    (h4 : ∀ i, l' i = l i + Ideal.div (∑ b, ∑ e, ∑ t, (x (ix3 b e t) - y (ix2 (flat b t) e)) * (x (ix3 b e t) - y (ix2 (flat b t) e)))
      (Ideal.ofBits .f32 0x4A000000#32)) :
    Stage C x q l x' q' n' l' := by
  have hy' : ∀ b t e, y (ix2 (flat b t) e) = C (nearest x C b t) e := fun b t e => by rw [hy, batch_flat, time_flat]
  refine ⟨fun b e t => ?_, fun b e t => ?_, fun b t => ?_, fun i => ?_⟩
  · rw [h1, hy']
  · rw [h2, hy']
  · rw [h3, hn, batch_flat, time_flat]
  · rw [h4]; simp only [hy']; rfl

end Cert.Proof.Reference

end
-- ==== Proof.Reference.Value.lean ====
module

public import proofs.«01_k».proof.Proof.Results
public import proofs.«01_k».proof.Proof.Reference.Stage

/-! Stage after stage: what the reference has made of the rows after `k` codebooks. -/

@[expose] public section

noncomputable section

namespace Cert.Proof.Reference

open Idealize.ShloMosaic Cert.ReferenceIdeal Cert.Proof Finset

/-- The state after `k` codebooks: the rows left over, the words gathered and the loss. -/
structure Reached (ρ : Rows) (C : ℕ → Book) (k : ℕ) (x q : Cells) (l : S_.Idx → EReal) : Prop where
  row : ∀ b t, cell x b t = rest (ρ b t) C k
  sum : ∀ b e t, q (ix3 b e t) = gathered (fun m => rest (ρ b t) C m e) (fun m => C m (code (ρ b t) C m) e) k
  loss : ∀ i, l i = loss ρ C k

/-- A stage leads from the state after `k` codebooks to the state after `k + 1`, and gives the numbers of codebook `k`'s words. -/
theorem Reached.next {ρ : Rows} {C : ℕ → Book} {k : ℕ} {x q : Cells} {l : S_.Idx → EReal} {x' q' : Cells} {n' : S8x2048.Idx → BitVec 32} {l' : S_.Idx → EReal}
    (hC : ∀ k j e, ∃ r : ℝ, C k j e = r) (h : Reached ρ C k x q l) (s : Stage (C k) x q l x' q' n' l') :
    Reached ρ C (k + 1) x' q' l' ∧ ∀ b t, n' (ix2 b t) = BitVec.ofNat 32 (code (ρ b t) C k).val := by
  have hw : ∀ b t, nearest x (C k) b t = code (ρ b t) C k := fun b t => by unfold nearest code; rw [h.row]
  have hx : ∀ b e t, x (ix3 b e t) = rest (ρ b t) C k e := fun b e t => congrFun (h.row b t) e
  refine ⟨⟨fun b t => funext fun e => ?_, fun b e t => ?_, fun i => ?_⟩, fun b t => ?_⟩
  · show x' (ix3 b e t) = _
    obtain ⟨r, hr⟩ := hC k (code (ρ b t) C k) e
    rw [s.left, hw, rest_succ, ← hx, hr, sub_through]
  · rw [s.gathers, h.sum, hw, hx]; rfl
  · rw [s.loss, h.loss]
    unfold Cert.Proof.loss
    rw [sum_range_succ]
    congr 1
    unfold costs cost
    congr 1
    refine sum_congr rfl fun b _ => ?_
    rw [sum_comm]
    refine sum_congr rfl fun t _ => sum_congr rfl fun e _ => ?_
    rw [hw, hx, rest_succ]
  · rw [s.number, hw]

/-- What has been gathered after four codebooks is the row less what is left of it. -/
theorem Reached.gathered_words {ρ : Rows} {C : ℕ → Book} {x q : Cells} {l : S_.Idx → EReal} (hC : ∀ k j e, ∃ r : ℝ, C k j e = r)
    (h : Reached ρ C 4 x q l) (b : Fin 8) (e : Fin 128) (t : Fin 2048) : q (ix3 b e t) = ρ b t e - rest (ρ b t) C 4 e := by
  rw [h.sum, gathered_eq _ _ (fun k => hC k _ _) (fun k => rest_succ _ _ _ _) 3]
  rfl

end Cert.Proof.Reference

end
-- ==== Proof.Reference.Steps.lean ====
module

public import proofs.«01_k».proof.Proof.Reference.Stage
public import proofs.«01_k».proof.Proof.Results
public import Idealize.ShloMosaic.Lib.StableHlo.ReadAt

/-! The reference takes the codebooks one after another with the same operations on other buffers. Here the buffers are named by the
codebook's number, and what its operations leave in them is read once for every codebook, over any contents they start from. -/

@[expose] public section

set_option maxRecDepth 16384

noncomputable section

namespace Cert.Proof.Reference

open Idealize.ShloMosaic Idealize.ShloMosaic.TcCoe Idealize.ShloMosaic.StableHlo Cert.ReferenceIdeal Cert.Proof

/-- How many operations come before those for codebook `k`; of 4, before the second projection. -/
def start : ℕ → ℕ
  | 0 => 7 | 1 => 71 | 2 => 134 | 3 => 197 | _ => 260

/-- How many operations follow the look-up: for the first codebook also the one that makes the loss zero. -/
def ending : ℕ → ℕ
  | 0 => 15 | _ => 14

section Buffers

variable (k : ℕ) (W : Valuation τ sig (Elt Ideal))

/-- The rows before codebook `k`. -/
def rowsAt : Cells :=
  match k with
  | 0 => W (Proc.devRef .tc main_v4) | 1 => W (Proc.devRef .tc main_v35) | 2 => W (Proc.devRef .tc main_v67)
  | 3 => W (Proc.devRef .tc main_v99) | _ => W (Proc.devRef .tc main_v131)

/-- What is gathered before codebook `k`. -/
def sumAt : Cells :=
  match k with
  | 0 => W (Proc.devRef .tc main_v5) | 1 => W (Proc.devRef .tc main_v34) | 2 => W (Proc.devRef .tc main_v66)
  | 3 => W (Proc.devRef .tc main_v98) | _ => W (Proc.devRef .tc main_v130)

/-- The loss before codebook `k`. -/
def lossAt : S_.Idx → EReal :=
  match k with
  | 0 => fun _ => 0 | 1 => W (Proc.devRef .tc main_v37) | 2 => W (Proc.devRef .tc main_v69)
  | 3 => W (Proc.devRef .tc main_v101) | _ => W (Proc.devRef .tc main_v133)

/-- The table of codebook `k`. -/
def tableAt : S1024x128.Idx → EReal :=
  match k with
  | 0 => W (Proc.devRef .tc main_v7) | 1 => W (Proc.devRef .tc main_v39) | 2 => W (Proc.devRef .tc main_v71) | _ => W (Proc.devRef .tc main_v103)

/-- The distances of all rows to its words. -/
def distancesAt : S16384x1024.Idx → EReal :=
  match k with
  | 0 => W (Proc.devRef .tc main_v23) | 1 => W (Proc.devRef .tc main_v55) | 2 => W (Proc.devRef .tc main_v87) | _ => W (Proc.devRef .tc main_v119)

/-- The numbers of the words, row by row. -/
def foundAt : S16384.Idx → BitVec 32 :=
  match k with
  | 0 => W (Proc.devRef .tc main_v24) | 1 => W (Proc.devRef .tc main_v56) | 2 => W (Proc.devRef .tc main_v88) | _ => W (Proc.devRef .tc main_v120)

/-- The words, row by row. -/
def takenAt : S16384x128.Idx → EReal :=
  match k with
  | 0 => W (Proc.devRef .tc main_v25) | 1 => W (Proc.devRef .tc main_v57) | 2 => W (Proc.devRef .tc main_v89) | _ => W (Proc.devRef .tc main_v121)

/-- The numbers of the words, by batch and time. -/
def numbersAt : S8x2048.Idx → BitVec 32 :=
  match k with
  | 0 => W (Proc.devRef .tc main_v36) | 1 => W (Proc.devRef .tc main_v68) | 2 => W (Proc.devRef .tc main_v100) | _ => W (Proc.devRef .tc main_v132)

/-- Codebook `k`, from the contents. -/
def bookAt : Book := books (W (Proc.devRef .tc main_arg3)) k

end Buffers

theorem start_succ {k : ℕ} (hk : k < 4) : start (k + 1) = start k + (49 + ending k) := by
  obtain rfl | rfl | rfl | rfl : k = 0 ∨ k = 1 ∨ k = 2 ∨ k = 3 := by omega
  all_goals rfl

variable (W : Valuation τ sig (Elt Ideal)) {k : ℕ} (hk : k < 4)

include hk

set_option maxHeartbeats 1000000 in
/-- The distances. -/
theorem distances (r : Fin 16384) (j : Fin 1024) :
    distancesAt k (after (part (start k) 21) W) (ix2 r j) = distance (cell (rowsAt k W) (batch r) (time r)) (bookAt k W) j := by
  obtain rfl | rfl | rfl | rfl : k = 0 ∨ k = 1 ∨ k = 2 ∨ k = 3 := by omega
  all_goals
    simp only [distancesAt, rowsAt, start, part, line, List.drop_succ_cons, List.drop_zero, List.take_succ_cons, List.take_zero]
    after_reads_at
    rw [word_two]
    rfl

/-- The codebook as a table. -/
theorem table (j : Fin 1024) (e : Fin 128) : tableAt k (after (part (start k) 21) W) (ix2 j e) = bookAt k W j e := by
  obtain rfl | rfl | rfl | rfl : k = 0 ∨ k = 1 ∨ k = 2 ∨ k = 3 := by omega
  all_goals
    simp only [tableAt, start, part, line, List.drop_succ_cons, List.drop_zero, List.take_succ_cons, List.take_zero]
    after_reads_at
    rfl

/-- The number of the nearest word. -/
theorem found (r : Fin 16384) :
    foundAt k (after (part (start k + 21) 5) W) (ix1 r) = BitVec.ofNat 32 (pick fun j => distancesAt k W (ix2 r j)).val := by
  obtain rfl | rfl | rfl | rfl : k = 0 ∨ k = 1 ∨ k = 2 ∨ k = 3 := by omega
  all_goals
    simp only [foundAt, distancesAt, start, Nat.reduceAdd, part, line, List.drop_succ_cons, List.drop_zero, List.take_succ_cons, List.take_zero]
    after_reads_at
    exact argmin_at _ r

/-- The nearest word. -/
theorem taken (r : Fin 16384) (e : Fin 128) (j : Fin 1024) (h : foundAt k W (ix1 r) = BitVec.ofNat 32 j.val) :
    takenAt k (after (part (start k + 26) 23) W) (ix2 r e) = tableAt k W (ix2 j e) := by
  obtain rfl | rfl | rfl | rfl : k = 0 ∨ k = 1 ∨ k = 2 ∨ k = 3 := by omega
  all_goals
    simp only [takenAt, tableAt, start, Nat.reduceAdd, part, line, List.drop_succ_cons, List.drop_zero, List.take_succ_cons, List.take_zero]
    after_reads_at
    exact take_at _ _ r e j h

/-- The search for the words changes neither the rows nor what is gathered nor the loss. -/
theorem kept_rows : rowsAt k (after (part (start k) 49) W) = rowsAt k W ∧ sumAt k (after (part (start k) 49) W) = sumAt k W
    ∧ lossAt k (after (part (start k) 49) W) = lossAt k W := by
  obtain rfl | rfl | rfl | rfl : k = 0 ∨ k = 1 ∨ k = 2 ∨ k = 3 := by omega
  all_goals
    simp only [rowsAt, sumAt, lossAt, start, part, line, List.drop_succ_cons, List.drop_zero, List.take_succ_cons, List.take_zero]
    refine ⟨?_, ?_, ?_⟩
  all_goals first | rfl | after_reads_simp

/-- Nor does the choice of the words change the table. -/
theorem kept_table : tableAt k (after (part (start k + 21) 5) W) = tableAt k W := by
  obtain rfl | rfl | rfl | rfl : k = 0 ∨ k = 1 ∨ k = 2 ∨ k = 3 := by omega
  all_goals
    simp only [tableAt, start, Nat.reduceAdd, part, line, List.drop_succ_cons, List.drop_zero, List.take_succ_cons, List.take_zero]
    after_reads_simp

/-- Nor does the look-up change the numbers. -/
theorem kept_found : foundAt k (after (part (start k + 26) 23) W) = foundAt k W := by
  obtain rfl | rfl | rfl | rfl : k = 0 ∨ k = 1 ∨ k = 2 ∨ k = 3 := by omega
  all_goals
    simp only [foundAt, start, Nat.reduceAdd, part, line, List.drop_succ_cons, List.drop_zero, List.take_succ_cons, List.take_zero]
    after_reads_simp

/-- The rows left over. -/
theorem left_over (b : Fin 8) (e : Fin 128) (t : Fin 2048) :
    rowsAt (k + 1) (after (part (start k + 49) (ending k)) W) (ix3 b e t)
      = rowsAt k W (ix3 b e t) - (rowsAt k W (ix3 b e t) + (takenAt k W (ix2 (flat b t) e) - rowsAt k W (ix3 b e t))) := by
  obtain rfl | rfl | rfl | rfl : k = 0 ∨ k = 1 ∨ k = 2 ∨ k = 3 := by omega
  all_goals
    simp only [rowsAt, takenAt, start, ending, Nat.reduceAdd, part, line, List.drop_succ_cons, List.drop_zero, List.take_succ_cons, List.take_zero]
    after_reads_at
    rfl

/-- What is gathered. -/
theorem gathering (b : Fin 8) (e : Fin 128) (t : Fin 2048) :
    sumAt (k + 1) (after (part (start k + 49) (ending k)) W) (ix3 b e t)
      = sumAt k W (ix3 b e t) + (rowsAt k W (ix3 b e t) + (takenAt k W (ix2 (flat b t) e) - rowsAt k W (ix3 b e t))) := by
  obtain rfl | rfl | rfl | rfl : k = 0 ∨ k = 1 ∨ k = 2 ∨ k = 3 := by omega
  all_goals
    simp only [rowsAt, sumAt, takenAt, start, ending, Nat.reduceAdd, part, line, List.drop_succ_cons, List.drop_zero, List.take_succ_cons, List.take_zero]
    after_reads_at
    rfl

/-- The numbers, by batch and time. -/
theorem numbering (b : Fin 8) (t : Fin 2048) : numbersAt k (after (part (start k + 49) (ending k)) W) (ix2 b t) = foundAt k W (ix1 (flat b t)) := by
  obtain rfl | rfl | rfl | rfl : k = 0 ∨ k = 1 ∨ k = 2 ∨ k = 3 := by omega
  all_goals
    simp only [numbersAt, foundAt, start, ending, Nat.reduceAdd, part, line, List.drop_succ_cons, List.drop_zero, List.take_succ_cons, List.take_zero]
    after_reads_at
    rfl

/-- The loss. -/
theorem losing (i : S_.Idx) :
    lossAt (k + 1) (after (part (start k + 49) (ending k)) W) i
      = lossAt k W i + Ideal.div (∑ b, ∑ e, ∑ t, (rowsAt k W (ix3 b e t) - takenAt k W (ix2 (flat b t) e)) * (rowsAt k W (ix3 b e t) - takenAt k W (ix2 (flat b t) e)))
          (Ideal.ofBits .f32 0x4A000000#32) := by
  obtain rfl | rfl | rfl | rfl : k = 0 ∨ k = 1 ∨ k = 2 ∨ k = 3 := by omega
  all_goals
    simp only [lossAt, rowsAt, takenAt, start, ending, Nat.reduceAdd, part, line, List.drop_succ_cons, List.drop_zero, List.take_succ_cons, List.take_zero]
    after_reads_at
    rfl

/-- The operations for codebook `k` are one stage. -/
theorem stage : Stage (bookAt k W) (rowsAt k W) (sumAt k W) (lossAt k W)
    (rowsAt (k + 1) (after (part (start k) (49 + ending k)) W)) (sumAt (k + 1) (after (part (start k) (49 + ending k)) W))
    (numbersAt k (after (part (start k) (49 + ending k)) W)) (lossAt (k + 1) (after (part (start k) (49 + ending k)) W)) := by
  have hn : ∀ r, foundAt k (after (part (start k + 21) 5) (after (part (start k) 21) W)) (ix1 r)
      = BitVec.ofNat 32 (nearest (rowsAt k W) (bookAt k W) (batch r) (time r)).val := fun r =>
    (found _ hk r).trans (congrArg (fun d => BitVec.ofNat 32 (pick d).val) (funext fun j => distances W hk r j))
  have split : after (part (start k) 49) W = after (part (start k + 26) 23) (after (part (start k + 21) 5) (after (part (start k) 21) W)) :=
    (after_part (start k) 26 23 W).trans (congrArg (after (part (start k + 26) 23)) (after_part (start k) 21 5 W))
  obtain ⟨hx, hq, hl⟩ := kept_rows W hk
  rw [after_part (start k) 49 (ending k) W]
  refine Stage.of_flat (foundAt k (after (part (start k) 49) W)) (takenAt k (after (part (start k) 49) W)) (fun r => ?_) (fun r e => ?_)
    (fun b e t => ?_) (fun b e t => ?_) (fun b t => numbering _ hk b t) (fun i => ?_)
  · rw [split, kept_found _ hk]; exact hn r
  · rw [split, taken _ hk r e _ (hn r), kept_table _ hk]; exact table W hk _ e
  · rw [left_over _ hk, hx]
  · rw [gathering _ hk, hx, hq]
  · rw [losing _ hk, hx, hl]

end Cert.Proof.Reference

end
-- ==== Proof.Reference.Results.lean ====
module

public import proofs.«01_k».proof.Proof.Reference.Value
public import proofs.«01_k».proof.Proof.Reference.Steps

/-! The reference's six results. -/

@[expose] public section

set_option maxRecDepth 16384

noncomputable section

namespace Cert.Proof.Reference

open Idealize.ShloMosaic Idealize.ShloMosaic.TcCoe Idealize.ShloMosaic.StableHlo Cert.ReferenceIdeal Cert.Proof

variable (V : Valuation τ sig (Elt Ideal))

/-- The rows to be coded, from the arguments. -/
def rows : Rows := coded (V (Proc.devRef .tc main_arg0)) (V (Proc.devRef .tc main_arg1)) (V (Proc.devRef .tc main_arg2))

/-- The codebooks, from the arguments. -/
def stack : ℕ → Book := books (V (Proc.devRef .tc main_arg3))

/-- The contents after the first `n` operations. -/
def at_ (n : ℕ) : Valuation τ sig (Elt Ideal) := after (part 0 n) V

theorem at_add (m n : ℕ) : at_ V (m + n) = after (part m n) (at_ V m) := by
  unfold at_; rw [after_part, Nat.zero_add]

/-- The whole line. -/
theorem at_end : at_ V 265 = after line.1 V := by
  unfold at_ part
  rw [List.drop_zero, List.take_of_length_le (by simp only [line, List.length_cons, List.length_nil]; exact le_rfl)]

/-- The first projection. -/
theorem first_rows (b : Fin 8) (t : Fin 2048) : cell (at_ V 7 (Proc.devRef .tc main_v4)) b t = rows V b t := by
  funext e
  show (after (part 0 7) V (Proc.devRef .tc main_v4) : Cells) (ix3 b e t) = _
  simp only [part, line, List.drop_zero, List.take_succ_cons, List.take_zero]
  after_reads_at
  rfl

/-- At first nothing is gathered. -/
theorem first_sum (b : Fin 8) (e : Fin 128) (t : Fin 2048) : (at_ V 7 (Proc.devRef .tc main_v5) : Cells) (ix3 b e t) = (0 : EReal) := by
  show (after (part 0 7) V (Proc.devRef .tc main_v5) : Cells) (ix3 b e t) = _
  simp only [part, line, List.drop_zero, List.take_succ_cons, List.take_zero]
  after_reads_at

/-- The codebooks stay as they were. -/
theorem kept_codebooks {k : ℕ} (hk : k < 4) : bookAt k (at_ V (start k)) = stack V k := by
  have h : at_ V (start k) (Proc.devRef .tc main_arg3) = V (Proc.devRef .tc main_arg3) := by
    obtain rfl | rfl | rfl | rfl : k = 0 ∨ k = 1 ∨ k = 2 ∨ k = 3 := by omega
    all_goals
      simp only [at_, start, part, line, List.drop_zero, List.take_succ_cons, List.take_zero]
      after_reads_simp
  unfold bookAt stack
  rw [h]

/-- So do the second projection's weights. -/
theorem kept_weights : at_ V 260 (Proc.devRef .tc main_arg4) = V (Proc.devRef .tc main_arg4)
    ∧ at_ V 260 (Proc.devRef .tc main_arg5) = V (Proc.devRef .tc main_arg5) := by
  simp only [at_, part, line, List.drop_zero, List.take_succ_cons, List.take_zero]
  refine ⟨?_, ?_⟩ <;> after_reads_simp

variable (W : Valuation τ sig (Elt Ideal))

/-- Numbers once found are kept to the end. -/
theorem kept_numbers {k : ℕ} (hk : k < 4) : numbersAt k (after (part (start (k + 1)) (265 - start (k + 1))) W) = numbersAt k W := by
  obtain rfl | rfl | rfl | rfl : k = 0 ∨ k = 1 ∨ k = 2 ∨ k = 3 := by omega
  all_goals
    simp only [numbersAt, start, Nat.reduceAdd, Nat.reduceSub, part, line, List.drop_succ_cons, List.drop_zero, List.take_succ_cons, List.take_zero]
    after_reads_simp

/-- So is the loss. -/
theorem kept_loss : lossAt 4 (after (part (start 4) 5) W) = lossAt 4 W := by
  simp only [lossAt, start, part, line, List.drop_succ_cons, List.drop_zero, List.take_succ_cons, List.take_zero]
  after_reads_simp

/-- The second projection. -/
theorem projection (q : Cells) (w : S256x128.Idx → EReal) (v : S256.Idx → EReal) (hq : W (Proc.devRef .tc main_v130) = q)
    (hw : W (Proc.devRef .tc main_arg4) = w) (hv : W (Proc.devRef .tc main_arg5) = v) (b : Fin 8) (h : Fin 256) (t : Fin 2048) :
    (after (part 260 5) W (Proc.devRef .tc main_v138) : S8x256x2048.Idx → EReal) (ix3 b h t) = (∑ e, q (ix3 b e t) * w (ix2 h e)) + v (ix1 h) := by
  subst hq hw hv
  simp only [part, line, List.drop_succ_cons, List.drop_zero, List.take_succ_cons, List.take_zero]
  after_reads_at

/-- Before each codebook, and after the last, the buffers hold what the row-wise description says. -/
theorem reached (hC : ∀ k j e, ∃ r : ℝ, stack V k j e = r) (k : ℕ) (hk : k ≤ 4) :
    Reached (rows V) (stack V) k (rowsAt k (at_ V (start k))) (sumAt k (at_ V (start k))) (lossAt k (at_ V (start k))) := by
  induction k with
  | zero => exact ⟨first_rows V, first_sum V, fun _ => rfl⟩
  | succ k ih =>
    have s := stage (at_ V (start k)) hk
    rw [kept_codebooks V hk, ← at_add, ← start_succ hk] at s
    exact ((ih (by omega)).next hC s).1

/-- The numbers of each codebook's words, in the end. -/
theorem numbers_end (hC : ∀ k j e, ∃ r : ℝ, stack V k j e = r) {k : ℕ} (hk : k < 4) (b : Fin 8) (t : Fin 2048) :
    numbersAt k (after line.1 V) (ix2 b t) = BitVec.ofNat 32 (code (rows V b t) (stack V) k).val := by
  have s := stage (at_ V (start k)) hk
  rw [kept_codebooks V hk, ← at_add, ← start_succ hk] at s
  have h : start (k + 1) ≤ 265 := by
    obtain rfl | rfl | rfl | rfl : k = 0 ∨ k = 1 ∨ k = 2 ∨ k = 3 := by omega
    all_goals decide
  have e := kept_numbers (at_ V (start (k + 1))) hk
  rw [← at_add, Nat.add_sub_cancel' h, at_end] at e
  rw [e]
  exact ((reached V hC k hk.le).next hC s).2 b t

/-- The output, in the end. -/
theorem output_end (hC : ∀ k j e, ∃ r : ℝ, stack V k j e = r) (b : Fin 8) (h : Fin 256) (t : Fin 2048) :
    (after line.1 V (Proc.devRef .tc main_v138) : S8x256x2048.Idx → EReal) (ix3 b h t)
      = output (rows V) (stack V) (V (Proc.devRef .tc main_arg4)) (V (Proc.devRef .tc main_arg5)) b h t := by
  obtain ⟨w4, w5⟩ := kept_weights V
  have p := projection (at_ V 260) _ _ _ rfl w4 w5 b h t
  rw [← at_add V 260 5, at_end] at p
  rw [p]
  unfold output
  congr 1
  refine Finset.sum_congr rfl fun e _ => ?_
  have g := (reached V hC 4 le_rfl).gathered_words hC b e t
  rw [← g, mul_comm]
  rfl

/-- The loss, in the end. -/
theorem loss_end (hC : ∀ k j e, ∃ r : ℝ, stack V k j e = r) (i : S_.Idx) : lossAt 4 (after line.1 V) i = loss (rows V) (stack V) 4 := by
  have e := kept_loss (at_ V (start 4))
  rw [← at_add] at e
  exact (congrFun ((congrArg (lossAt 4) (at_end V).symm).trans e) i).trans ((reached V hC 4 le_rfl).loss i)

/-- The reference runs and ends with the output, the numbers and the loss in its results, its arguments as they were. -/
theorem run_values (m : (ℓ : Loc nD τ sig) → Buf (Elt Ideal) ℓ) (ρ : Dev nD → PrngReg)
    (hf : ∀ (c : Dev nD) i, ∃ r : ℝ, (m ((c.tc : Thread nD τ).loc main_arg3) : S4x1024x128.Idx → EReal) i = (r : EReal)) :
    θ_run (defs (F := Ideal)) (onTc (τ := τ) (main (F := Ideal))) ⟨m, fun _ => 0, ρ⟩ (fun r => ∀ c : Dev nD,
      r.2.mem ((c.tc : Thread nD τ).loc main_v138)
        = outputs (rows (launchContents m c)) (stack (launchContents m c)) (m ((c.tc : Thread nD τ).loc main_arg4)) (m ((c.tc : Thread nD τ).loc main_arg5))
      ∧ r.2.mem ((c.tc : Thread nD τ).loc main_v36) = numbers (rows (launchContents m c)) (stack (launchContents m c)) 0
      ∧ r.2.mem ((c.tc : Thread nD τ).loc main_v68) = numbers (rows (launchContents m c)) (stack (launchContents m c)) 1
      ∧ r.2.mem ((c.tc : Thread nD τ).loc main_v100) = numbers (rows (launchContents m c)) (stack (launchContents m c)) 2
      ∧ r.2.mem ((c.tc : Thread nD τ).loc main_v132) = numbers (rows (launchContents m c)) (stack (launchContents m c)) 3
      ∧ r.2.mem ((c.tc : Thread nD τ).loc main_v133) = (fun _ => loss (rows (launchContents m c)) (stack (launchContents m c)) 4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run (defs (F := Ideal)) _ _).mono (fun r h c => ?_) (run m ρ)
  have hC : ∀ k j e, ∃ r : ℝ, stack (launchContents m c) k j e = r := fun k j e => hf c _
  have n : ∀ k (hk : k < 4), numbersAt k (after line.1 (launchContents m c)) = numbers (rows (launchContents m c)) (stack (launchContents m c)) k :=
    fun k hk => eq_numbers (numbers_end _ hC hk)
  obtain ⟨a0, a1, a2, a3, a4, a5⟩ := line_args (launchContents m c)
  exact ⟨(h c main_v138).trans (eq_outputs (output_end _ hC)), (h c main_v36).trans (n 0 (by decide)), (h c main_v68).trans (n 1 (by decide)),
    (h c main_v100).trans (n 2 (by decide)), (h c main_v132).trans (n 3 (by decide)), (h c main_v133).trans (funext (loss_end _ hC)),
    (h c main_arg0).trans a0, (h c main_arg1).trans a1, (h c main_arg2).trans a2, (h c main_arg3).trans a3, (h c main_arg4).trans a4, (h c main_arg5).trans a5⟩

end Cert.Proof.Reference

end
-- ==== Proof.lean ====
/- The certificate: the programs' facts, the frames of the three programs, and that the kernel and its reference, read over the extended
   reals, end with the same six results wherever the codebooks are finite. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_codebooks_finite
public import proofs.«01_k».proof.Proof.Finite
public import proofs.«01_k».proof.Proof.Kernel.Results
public import proofs.«01_k».proof.Proof.Reference.Results

@[expose] public section

noncomputable section

namespace Cert.Proof

open Idealize.ShloMosaic Idealize.ShloMosaic.StableHlo Idealize.SL.Sem

/-- Where the codebooks are finite and the arguments the same, the kernel and its reference end with the same output, the same numbers of
the words chosen and the same loss: both are what the mathematics of the six arguments says. -/
theorem same_results : Cert.algebraic_KernelIdeal_ReferenceIdeal_pre_codebooks_finite (hKernelIdeal := Cert.KernelIdeal.Gen.facts)
    (hReferenceIdeal := Cert.ReferenceIdeal.Gen.facts) (hPre_codebooks_finite := Cert.Pre_codebooks_finite.Gen.facts) := by
  intro m g m' g' hp ha
  have hf : ∀ c i, ∃ r : ℝ, Kernel.codebooks m c i = (r : EReal) := fun c => finite_of_fn _ _ _ _ _ _ (hp c)
  refine ⟨fun c => outputs (Kernel.rows m c) (Kernel.stack m c) (Kernel.outMatrix m c) (Kernel.outBias m c),
    fun c => numbers (Kernel.rows m c) (Kernel.stack m c) 0, fun c => numbers (Kernel.rows m c) (Kernel.stack m c) 1,
    fun c => numbers (Kernel.rows m c) (Kernel.stack m c) 2, fun c => numbers (Kernel.rows m c) (Kernel.stack m c) 3,
    fun c _ => loss (Kernel.rows m c) (Kernel.stack m c) 4, Kernel.run m g hf, ?_⟩
  have hf' : ∀ (c : Dev Cert.ReferenceIdeal.nD) i, ∃ r : ℝ,
      (m' ((c.tc : Thread Cert.ReferenceIdeal.nD Cert.ReferenceIdeal.τ).loc Cert.ReferenceIdeal.main_arg3) : Cert.ReferenceIdeal.S4x1024x128.Idx → EReal) i = (r : EReal) := by
    intro c i
    rw [(ha c).2.2.2.1]
    exact hf c i
  refine (θ_run (Cert.ReferenceIdeal.defs (F := Ideal)) _ _).mono (fun r h c => ?_) (Reference.run_values m' g' hf')
  obtain ⟨a0, a1, a2, a3, a4, a5⟩ := ha c
  have hr : Reference.rows (launchContents m' c) = Kernel.rows m c :=
    congr (congr (congrArg coded a0) a1) a2
  have hs : Reference.stack (launchContents m' c) = Kernel.stack m c := congrArg books a3
  have hc := h c
  rw [hr, hs, a4, a5] at hc
  rw [a4, a5]
  exact hc

/-- The programs' stated facts hold; each program runs and leaves its arguments as they were; nothing was rewritten between the kernel and
its reading over the extended reals; and that reading has the reference's results. -/
theorem claim : Cert.Claim :=
  ⟨Cert.Kernel.Gen.facts, Cert.KernelIdeal.Gen.facts, Cert.ReferenceIdeal.Gen.facts, Cert.Pre_codebooks_finite.Gen.facts,
    fun m ρ _ => Cert.Kernel.Gen.frame m ρ,
    fun m ρ _ => Cert.KernelIdeal.Gen.frame m ρ,
    fun m ρ _ => Cert.KernelIdeal.Gen.frame m ρ,
    fun m ρ _ => Cert.Proof.Reference.frame m ρ,
    fun m ρ _ => Cert.Proof.Reference.frame m ρ,
    trivial,
    same_results⟩

end Cert.Proof

end
